-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)
  ∧ IdealRules.named_const.Statement Cert.KernelIdeal.κ "mask" .f32 0xC1F00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32 : Shape := ⟨2, ![128, 32]⟩
abbrev S128x512 : Shape := ⟨2, ![128, 512]⟩
abbrev S128 : Shape := ⟨1, ![128]⟩
abbrev S50000x300 : Shape := ⟨2, ![50000, 300]⟩
abbrev S1x21 : Shape := ⟨2, ![1, 21]⟩
abbrev S1 : Shape := ⟨1, ![1]⟩
abbrev S128x544 : Shape := ⟨2, ![128, 544]⟩
abbrev S128x1x1 : Shape := ⟨3, ![128, 1, 1]⟩
abbrev S1x1x21 : Shape := ⟨3, ![1, 1, 21]⟩
abbrev S1x1x1 : Shape := ⟨3, ![1, 1, 1]⟩
abbrev S32x544 : Shape := ⟨2, ![32, 544]⟩
abbrev S_ : Shape := ⟨0, ![]⟩
abbrev S32x544x1 : Shape := ⟨3, ![32, 544, 1]⟩
abbrev S32x544x300 : Shape := ⟨3, ![32, 544, 300]⟩
abbrev S32x1x1 : Shape := ⟨3, ![32, 1, 1]⟩
abbrev S32x1x21 : Shape := ⟨3, ![32, 1, 21]⟩
abbrev S128x1x21 : Shape := ⟨3, ![128, 1, 21]⟩
abbrev S128x21 : Shape := ⟨2, ![128, 21]⟩
abbrev S1x544x300 : Shape := ⟨3, ![1, 544, 300]⟩
abbrev S1x32x300 : Shape := ⟨3, ![1, 32, 300]⟩
abbrev S32x300 : Shape := ⟨2, ![32, 300]⟩
abbrev S1x512x300 : Shape := ⟨3, ![1, 512, 300]⟩
abbrev S512x300 : Shape := ⟨2, ![512, 300]⟩
abbrev S32 : Shape := ⟨1, ![32]⟩
abbrev S32x1 : Shape := ⟨2, ![32, 1]⟩
abbrev S512 : Shape := ⟨1, ![512]⟩
abbrev S512x1 : Shape := ⟨2, ![512, 1]⟩
abbrev S32x512 : Shape := ⟨2, ![32, 512]⟩
abbrev S32x21 : Shape := ⟨2, ![32, 21]⟩
abbrev S21 : Shape := ⟨1, ![21]⟩
abbrev S1x1 : Shape := ⟨2, ![1, 1]⟩

abbrev nBuf : Space → Nat
  | .hbm => 72
  | .vmem => 32
  | .smem => 16
  | _ => 0

abbrev bufTy : (tb : Table) → Fin (tcTables nBuf tb) → BufTy
  | .hbm, ⟨0, _⟩ => ⟨S128x32, .i32⟩
  | .hbm, ⟨1, _⟩ => ⟨S128x512, .i32⟩
  | .hbm, ⟨2, _⟩ => ⟨S128, .i32⟩
  | .hbm, ⟨3, _⟩ => ⟨S128, .i32⟩
  | .hbm, ⟨4, _⟩ => ⟨S50000x300, .f32⟩
  | .hbm, ⟨5, _⟩ => ⟨S1x21, .f32⟩
  | .hbm, ⟨6, _⟩ => ⟨S1, .f32⟩
  | .hbm, ⟨7, _⟩ => ⟨S128x544, .i32⟩
  | .hbm, ⟨8, _⟩ => ⟨S128x1x1, .i32⟩
  | .hbm, ⟨9, _⟩ => ⟨S128x1x1, .i32⟩
  | .hbm, ⟨10, _⟩ => ⟨S1x1x21, .f32⟩
  | .hbm, ⟨11, _⟩ => ⟨S1x1x1, .f32⟩
  | .hbm, ⟨12, _⟩ => ⟨S32x544, .i32⟩
  | .hbm, ⟨13, _⟩ => ⟨S_, .i32⟩
  | .hbm, ⟨14, _⟩ => ⟨S32x544, .i32⟩
  | .hbm, ⟨15, _⟩ => ⟨S32x544, .i1⟩
  | .hbm, ⟨16, _⟩ => ⟨S_, .i32⟩
  | .hbm, ⟨17, _⟩ => ⟨S32x544, .i32⟩
  | .hbm, ⟨18, _⟩ => ⟨S32x544, .i32⟩
  | .hbm, ⟨19, _⟩ => ⟨S32x544, .i32⟩
  | .hbm, ⟨20, _⟩ => ⟨S32x544x1, .i32⟩
  | .hbm, ⟨21, _⟩ => ⟨S32x544x300, .f32⟩
  | .hbm, ⟨22, _⟩ => ⟨S32x1x1, .i32⟩
  | .hbm, ⟨23, _⟩ => ⟨S32x1x1, .i32⟩
  | .hbm, ⟨24, _⟩ => ⟨S32x1x21, .f32⟩
  | .hbm, ⟨25, _⟩ => ⟨S32x1x1, .f32⟩
  | .hbm, ⟨26, _⟩ => ⟨S32x544, .i32⟩
  | .hbm, ⟨27, _⟩ => ⟨S_, .i32⟩
  | .hbm, ⟨28, _⟩ => ⟨S32x544, .i32⟩
  | .hbm, ⟨29, _⟩ => ⟨S32x544, .i1⟩
  | .hbm, ⟨30, _⟩ => ⟨S_, .i32⟩
  | .hbm, ⟨31, _⟩ => ⟨S32x544, .i32⟩
  | .hbm, ⟨32, _⟩ => ⟨S32x544, .i32⟩
  | .hbm, ⟨33, _⟩ => ⟨S32x544, .i32⟩
  | .hbm, ⟨34, _⟩ => ⟨S32x544x1, .i32⟩
  | .hbm, ⟨35, _⟩ => ⟨S32x544x300, .f32⟩
  | .hbm, ⟨36, _⟩ => ⟨S32x1x1, .i32⟩
  | .hbm, ⟨37, _⟩ => ⟨S32x1x1, .i32⟩
  | .hbm, ⟨38, _⟩ => ⟨S32x1x21, .f32⟩
  | .hbm, ⟨39, _⟩ => ⟨S32x1x1, .f32⟩
  | .hbm, ⟨40, _⟩ => ⟨S32x544, .i32⟩
  | .hbm, ⟨41, _⟩ => ⟨S_, .i32⟩
  | .hbm, ⟨42, _⟩ => ⟨S32x544, .i32⟩
  | .hbm, ⟨43, _⟩ => ⟨S32x544, .i1⟩
  | .hbm, ⟨44, _⟩ => ⟨S_, .i32⟩
  | .hbm, ⟨45, _⟩ => ⟨S32x544, .i32⟩
  | .hbm, ⟨46, _⟩ => ⟨S32x544, .i32⟩
  | .hbm, ⟨47, _⟩ => ⟨S32x544, .i32⟩
  | .hbm, ⟨48, _⟩ => ⟨S32x544x1, .i32⟩
  | .hbm, ⟨49, _⟩ => ⟨S32x544x300, .f32⟩
  | .hbm, ⟨50, _⟩ => ⟨S32x1x1, .i32⟩
  | .hbm, ⟨51, _⟩ => ⟨S32x1x1, .i32⟩
  | .hbm, ⟨52, _⟩ => ⟨S32x1x21, .f32⟩
  | .hbm, ⟨53, _⟩ => ⟨S32x1x1, .f32⟩
  | .hbm, ⟨54, _⟩ => ⟨S32x544, .i32⟩
  | .hbm, ⟨55, _⟩ => ⟨S_, .i32⟩
  | .hbm, ⟨56, _⟩ => ⟨S32x544, .i32⟩
  | .hbm, ⟨57, _⟩ => ⟨S32x544, .i1⟩
  | .hbm, ⟨58, _⟩ => ⟨S_, .i32⟩
  | .hbm, ⟨59, _⟩ => ⟨S32x544, .i32⟩
  | .hbm, ⟨60, _⟩ => ⟨S32x544, .i32⟩
  | .hbm, ⟨61, _⟩ => ⟨S32x544, .i32⟩
  | .hbm, ⟨62, _⟩ => ⟨S32x544x1, .i32⟩
  | .hbm, ⟨63, _⟩ => ⟨S32x544x300, .f32⟩
  | .hbm, ⟨64, _⟩ => ⟨S32x1x1, .i32⟩
  | .hbm, ⟨65, _⟩ => ⟨S32x1x1, .i32⟩
  | .hbm, ⟨66, _⟩ => ⟨S32x1x21, .f32⟩
  | .hbm, ⟨67, _⟩ => ⟨S32x1x1, .f32⟩
  | .hbm, ⟨68, _⟩ => ⟨S128x1x21, .f32⟩
  | .hbm, ⟨69, _⟩ => ⟨S128x1x1, .f32⟩
  | .hbm, ⟨70, _⟩ => ⟨S128, .f32⟩
  | .hbm, ⟨71, _⟩ => ⟨S128x21, .f32⟩
  | .local _ .vmem, ⟨0, _⟩ => ⟨S1x544x300, .f32⟩
  | .local _ .vmem, ⟨1, _⟩ => ⟨S1x544x300, .f32⟩
  | .local _ .vmem, ⟨2, _⟩ => ⟨S1x1x21, .f32⟩
  | .local _ .vmem, ⟨3, _⟩ => ⟨S1x1x1, .f32⟩
  | .local _ .vmem, ⟨4, _⟩ => ⟨S1x1x21, .f32⟩
  | .local _ .vmem, ⟨5, _⟩ => ⟨S1x1x21, .f32⟩
  | .local _ .vmem, ⟨6, _⟩ => ⟨S1x1x1, .f32⟩
  | .local _ .vmem, ⟨7, _⟩ => ⟨S1x1x1, .f32⟩
  | .local _ .vmem, ⟨8, _⟩ => ⟨S1x544x300, .f32⟩
  | .local _ .vmem, ⟨9, _⟩ => ⟨S1x544x300, .f32⟩
  | .local _ .vmem, ⟨10, _⟩ => ⟨S1x1x21, .f32⟩
  | .local _ .vmem, ⟨11, _⟩ => ⟨S1x1x1, .f32⟩
  | .local _ .vmem, ⟨12, _⟩ => ⟨S1x1x21, .f32⟩
  | .local _ .vmem, ⟨13, _⟩ => ⟨S1x1x21, .f32⟩
  | .local _ .vmem, ⟨14, _⟩ => ⟨S1x1x1, .f32⟩
  | .local _ .vmem, ⟨15, _⟩ => ⟨S1x1x1, .f32⟩
  | .local _ .vmem, ⟨16, _⟩ => ⟨S1x544x300, .f32⟩
  | .local _ .vmem, ⟨17, _⟩ => ⟨S1x544x300, .f32⟩
  | .local _ .vmem, ⟨18, _⟩ => ⟨S1x1x21, .f32⟩
  | .local _ .vmem, ⟨19, _⟩ => ⟨S1x1x1, .f32⟩
  | .local _ .vmem, ⟨20, _⟩ => ⟨S1x1x21, .f32⟩
  | .local _ .vmem, ⟨21, _⟩ => ⟨S1x1x21, .f32⟩
  | .local _ .vmem, ⟨22, _⟩ => ⟨S1x1x1, .f32⟩
  | .local _ .vmem, ⟨23, _⟩ => ⟨S1x1x1, .f32⟩
  | .local _ .vmem, ⟨24, _⟩ => ⟨S1x544x300, .f32⟩
  | .local _ .vmem, ⟨25, _⟩ => ⟨S1x544x300, .f32⟩
  | .local _ .vmem, ⟨26, _⟩ => ⟨S1x1x21, .f32⟩
  | .local _ .vmem, ⟨27, _⟩ => ⟨S1x1x1, .f32⟩
  | .local _ .vmem, ⟨28, _⟩ => ⟨S1x1x21, .f32⟩
  | .local _ .vmem, ⟨29, _⟩ => ⟨S1x1x21, .f32⟩
  | .local _ .vmem, ⟨30, _⟩ => ⟨S1x1x1, .f32⟩
  | .local _ .vmem, ⟨31, _⟩ => ⟨S1x1x1, .f32⟩
  | .local _ .smem, ⟨0, _⟩ => ⟨S1x1x1, .i32⟩
  | .local _ .smem, ⟨1, _⟩ => ⟨S1x1x1, .i32⟩
  | .local _ .smem, ⟨2, _⟩ => ⟨S1x1x1, .i32⟩
  | .local _ .smem, ⟨3, _⟩ => ⟨S1x1x1, .i32⟩
  | .local _ .smem, ⟨4, _⟩ => ⟨S1x1x1, .i32⟩
  | .local _ .smem, ⟨5, _⟩ => ⟨S1x1x1, .i32⟩
  | .local _ .smem, ⟨6, _⟩ => ⟨S1x1x1, .i32⟩
  | .local _ .smem, ⟨7, _⟩ => ⟨S1x1x1, .i32⟩
  | .local _ .smem, ⟨8, _⟩ => ⟨S1x1x1, .i32⟩
  | .local _ .smem, ⟨9, _⟩ => ⟨S1x1x1, .i32⟩
  | .local _ .smem, ⟨10, _⟩ => ⟨S1x1x1, .i32⟩
  | .local _ .smem, ⟨11, _⟩ => ⟨S1x1x1, .i32⟩
  | .local _ .smem, ⟨12, _⟩ => ⟨S1x1x1, .i32⟩
  | .local _ .smem, ⟨13, _⟩ => ⟨S1x1x1, .i32⟩
  | .local _ .smem, ⟨14, _⟩ => ⟨S1x1x1, .i32⟩
  | .local _ .smem, ⟨15, _⟩ => ⟨S1x1x1, .i32⟩
  | _, _ => ⟨S128x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c : Ref sig .tc := ⟨.hbm, 13, rfl⟩
abbrev main_call0_v6 : Ref sig .tc := ⟨.hbm, 14, rfl⟩
abbrev main_call0_v7 : Ref sig .tc := ⟨.hbm, 15, rfl⟩
abbrev main_call0_c_0 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15_0 : Ref sig .tc := ⟨.hbm, 24, rfl⟩
abbrev main_call0_v15_1 : Ref sig .tc := ⟨.hbm, 25, rfl⟩
abbrev main_call0_v16 : Ref sig .tc := ⟨.hbm, 26, rfl⟩
abbrev main_call0_c_1 : Ref sig .tc := ⟨.hbm, 27, rfl⟩
abbrev main_call0_v17 : Ref sig .tc := ⟨.hbm, 28, rfl⟩
abbrev main_call0_v18 : Ref sig .tc := ⟨.hbm, 29, rfl⟩
abbrev main_call0_c_2 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26_0 : Ref sig .tc := ⟨.hbm, 38, rfl⟩
abbrev main_call0_v26_1 : Ref sig .tc := ⟨.hbm, 39, rfl⟩
abbrev main_call0_v27 : Ref sig .tc := ⟨.hbm, 40, rfl⟩
abbrev main_call0_c_3 : Ref sig .tc := ⟨.hbm, 41, rfl⟩
abbrev main_call0_v28 : Ref sig .tc := ⟨.hbm, 42, rfl⟩
abbrev main_call0_v29 : Ref sig .tc := ⟨.hbm, 43, rfl⟩
abbrev main_call0_c_4 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_v37_0 : Ref sig .tc := ⟨.hbm, 52, rfl⟩
abbrev main_call0_v37_1 : Ref sig .tc := ⟨.hbm, 53, rfl⟩
abbrev main_call0_v38 : Ref sig .tc := ⟨.hbm, 54, rfl⟩
abbrev main_call0_c_5 : Ref sig .tc := ⟨.hbm, 55, rfl⟩
abbrev main_call0_v39 : Ref sig .tc := ⟨.hbm, 56, rfl⟩
abbrev main_call0_v40 : Ref sig .tc := ⟨.hbm, 57, rfl⟩
abbrev main_call0_c_6 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_call0_v45 : Ref sig .tc := ⟨.hbm, 63, rfl⟩
abbrev main_call0_v46 : Ref sig .tc := ⟨.hbm, 64, rfl⟩
abbrev main_call0_v47 : Ref sig .tc := ⟨.hbm, 65, rfl⟩
abbrev main_call0_v48_0 : Ref sig .tc := ⟨.hbm, 66, rfl⟩
abbrev main_call0_v48_1 : Ref sig .tc := ⟨.hbm, 67, rfl⟩
abbrev main_call0_v49 : Ref sig .tc := ⟨.hbm, 68, rfl⟩
abbrev main_call0_v50 : Ref sig .tc := ⟨.hbm, 69, rfl⟩
abbrev main_v0_0 : Ref sig .tc := ⟨.hbm, 70, rfl⟩
abbrev main_v0_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg2_1 : Ref sig .tc := ⟨.smem, 3, rfl⟩
abbrev cc1_stg1_0 : Ref sig .tc := ⟨.smem, 4, rfl⟩
abbrev cc1_stg1_1 : Ref sig .tc := ⟨.smem, 5, rfl⟩
abbrev cc1_stg2_0 : Ref sig .tc := ⟨.smem, 6, rfl⟩
abbrev cc1_stg2_1 : Ref sig .tc := ⟨.smem, 7, rfl⟩
abbrev cc2_stg1_0 : Ref sig .tc := ⟨.smem, 8, rfl⟩
abbrev cc2_stg1_1 : Ref sig .tc := ⟨.smem, 9, rfl⟩
abbrev cc2_stg2_0 : Ref sig .tc := ⟨.smem, 10, rfl⟩
abbrev cc2_stg2_1 : Ref sig .tc := ⟨.smem, 11, rfl⟩
abbrev cc3_stg1_0 : Ref sig .tc := ⟨.smem, 12, rfl⟩
abbrev cc3_stg1_1 : Ref sig .tc := ⟨.smem, 13, rfl⟩
abbrev cc3_stg2_0 : Ref sig .tc := ⟨.smem, 14, rfl⟩
abbrev cc3_stg2_1 : Ref sig .tc := ⟨.smem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x544x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x544x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .smem S1x1x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1x21 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x21 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x544x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .smem S1x1x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .smem S1x1x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1x21 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x21 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x544x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .smem S1x1x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .smem S1x1x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1x21 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x1x21 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== KernelIdeal.lean ====
variable {F : FTy → Type} [FloatOps F] [Named F]
def κ : String → Option EReal := fun
  | "eps2" => some ((5316911940649 / 5316911983139663491615228241121378304 : ℝ) : EReal)
  | "mask" => some ⊥
  | _ => none
-- ==== ReferenceIdeal.lean ====
abbrev S128x32 : Shape := ⟨2, ![128, 32]⟩
abbrev S128x512 : Shape := ⟨2, ![128, 512]⟩
abbrev S128 : Shape := ⟨1, ![128]⟩
abbrev S50000x300 : Shape := ⟨2, ![50000, 300]⟩
abbrev S1x21 : Shape := ⟨2, ![1, 21]⟩
abbrev S1 : Shape := ⟨1, ![1]⟩
abbrev S21 : Shape := ⟨1, ![21]⟩
abbrev S_ : Shape := ⟨0, ![]⟩
abbrev S128x32x1 : Shape := ⟨3, ![128, 32, 1]⟩
abbrev S128x32x300 : Shape := ⟨3, ![128, 32, 300]⟩
abbrev S128x512x1 : Shape := ⟨3, ![128, 512, 1]⟩
abbrev S128x512x300 : Shape := ⟨3, ![128, 512, 300]⟩
abbrev S32 : Shape := ⟨1, ![32]⟩
abbrev S1x32 : Shape := ⟨2, ![1, 32]⟩
abbrev S128x1 : Shape := ⟨2, ![128, 1]⟩
abbrev S512 : Shape := ⟨1, ![512]⟩
abbrev S1x512 : Shape := ⟨2, ![1, 512]⟩
abbrev S128x32x512 : Shape := ⟨3, ![128, 32, 512]⟩
abbrev S128x32x512x1 : Shape := ⟨4, ![128, 32, 512, 1]⟩
abbrev S1x1x1x21 : Shape := ⟨4, ![1, 1, 1, 21]⟩
abbrev S128x32x512x21 : Shape := ⟨4, ![128, 32, 512, 21]⟩
abbrev S128x1x512x1 : Shape := ⟨4, ![128, 1, 512, 1]⟩
abbrev S128x32x21 : Shape := ⟨3, ![128, 32, 21]⟩
abbrev S128x21 : Shape := ⟨2, ![128, 21]⟩
abbrev S21x1 : Shape := ⟨2, ![21, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S128x32, .i32⟩
  | .hbm, ⟨1, _⟩ => ⟨S128x512, .i32⟩
  | .hbm, ⟨2, _⟩ => ⟨S128, .i32⟩
  | .hbm, ⟨3, _⟩ => ⟨S128, .i32⟩
  | .hbm, ⟨4, _⟩ => ⟨S50000x300, .f32⟩
  | .hbm, ⟨5, _⟩ => ⟨S1x21, .f32⟩
  | .hbm, ⟨6, _⟩ => ⟨S1, .f32⟩
  | .hbm, ⟨7, _⟩ => ⟨S21, .f32⟩
  | .hbm, ⟨8, _⟩ => ⟨S21, .i32⟩
  | .hbm, ⟨9, _⟩ => ⟨S_, .i32⟩
  | .hbm, ⟨10, _⟩ => ⟨S21, .i32⟩
  | .hbm, ⟨11, _⟩ => ⟨S21, .i1⟩
  | .hbm, ⟨12, _⟩ => ⟨S_, .f32⟩
  | .hbm, ⟨13, _⟩ => ⟨S_, .f32⟩
  | .hbm, ⟨14, _⟩ => ⟨S21, .f32⟩
  | .hbm, ⟨15, _⟩ => ⟨S21, .f32⟩
  | .hbm, ⟨16, _⟩ => ⟨S21, .f32⟩
  | .hbm, ⟨17, _⟩ => ⟨S_, .f32⟩
  | .hbm, ⟨18, _⟩ => ⟨S21, .f32⟩
  | .hbm, ⟨19, _⟩ => ⟨S21, .f32⟩
  | .hbm, ⟨20, _⟩ => ⟨S_, .i32⟩
  | .hbm, ⟨21, _⟩ => ⟨S128x32, .i32⟩
  | .hbm, ⟨22, _⟩ => ⟨S128x32, .i1⟩
  | .hbm, ⟨23, _⟩ => ⟨S_, .i32⟩
  | .hbm, ⟨24, _⟩ => ⟨S128x32, .i32⟩
  | .hbm, ⟨25, _⟩ => ⟨S128x32, .i32⟩
  | .hbm, ⟨26, _⟩ => ⟨S128x32, .i32⟩
  | .hbm, ⟨27, _⟩ => ⟨S128x32x1, .i32⟩
  | .hbm, ⟨28, _⟩ => ⟨S128x32x300, .f32⟩
  | .hbm, ⟨29, _⟩ => ⟨S128x32x300, .f32⟩
  | .hbm, ⟨30, _⟩ => ⟨S_, .f32⟩
  | .hbm, ⟨31, _⟩ => ⟨S128x32, .f32⟩
  | .hbm, ⟨32, _⟩ => ⟨S128x32x1, .f32⟩
  | .hbm, ⟨33, _⟩ => ⟨S128x32x1, .f32⟩
  | .hbm, ⟨34, _⟩ => ⟨S_, .f32⟩
  | .hbm, ⟨35, _⟩ => ⟨S128x32x1, .f32⟩
  | .hbm, ⟨36, _⟩ => ⟨S128x32x1, .f32⟩
  | .hbm, ⟨37, _⟩ => ⟨S128x32x300, .f32⟩
  | .hbm, ⟨38, _⟩ => ⟨S128x32x300, .f32⟩
  | .hbm, ⟨39, _⟩ => ⟨S_, .i32⟩
  | .hbm, ⟨40, _⟩ => ⟨S128x512, .i32⟩
  | .hbm, ⟨41, _⟩ => ⟨S128x512, .i1⟩
  | .hbm, ⟨42, _⟩ => ⟨S_, .i32⟩
  | .hbm, ⟨43, _⟩ => ⟨S128x512, .i32⟩
  | .hbm, ⟨44, _⟩ => ⟨S128x512, .i32⟩
  | .hbm, ⟨45, _⟩ => ⟨S128x512, .i32⟩
  | .hbm, ⟨46, _⟩ => ⟨S128x512x1, .i32⟩
  | .hbm, ⟨47, _⟩ => ⟨S128x512x300, .f32⟩
  | .hbm, ⟨48, _⟩ => ⟨S128x512x300, .f32⟩
  | .hbm, ⟨49, _⟩ => ⟨S_, .f32⟩
  | .hbm, ⟨50, _⟩ => ⟨S128x512, .f32⟩
  | .hbm, ⟨51, _⟩ => ⟨S128x512x1, .f32⟩
  | .hbm, ⟨52, _⟩ => ⟨S128x512x1, .f32⟩
  | .hbm, ⟨53, _⟩ => ⟨S_, .f32⟩
  | .hbm, ⟨54, _⟩ => ⟨S128x512x1, .f32⟩
  | .hbm, ⟨55, _⟩ => ⟨S128x512x1, .f32⟩
  | .hbm, ⟨56, _⟩ => ⟨S128x512x300, .f32⟩
  | .hbm, ⟨57, _⟩ => ⟨S128x512x300, .f32⟩
  | .hbm, ⟨58, _⟩ => ⟨S32, .i32⟩
  | .hbm, ⟨59, _⟩ => ⟨S1x32, .i32⟩
  | .hbm, ⟨60, _⟩ => ⟨S128x1, .i32⟩
  | .hbm, ⟨61, _⟩ => ⟨S128x32, .i32⟩
  | .hbm, ⟨62, _⟩ => ⟨S128x32, .i32⟩
  | .hbm, ⟨63, _⟩ => ⟨S128x32, .i1⟩
  | .hbm, ⟨64, _⟩ => ⟨S128x32, .f32⟩
  | .hbm, ⟨65, _⟩ => ⟨S512, .i32⟩
  | .hbm, ⟨66, _⟩ => ⟨S1x512, .i32⟩
  | .hbm, ⟨67, _⟩ => ⟨S128x1, .i32⟩
  | .hbm, ⟨68, _⟩ => ⟨S128x512, .i32⟩
  | .hbm, ⟨69, _⟩ => ⟨S128x512, .i32⟩
  | .hbm, ⟨70, _⟩ => ⟨S128x512, .i1⟩
  | .hbm, ⟨71, _⟩ => ⟨S128x512, .f32⟩
  | .hbm, ⟨72, _⟩ => ⟨S128x32x512, .f32⟩
  | .hbm, ⟨73, _⟩ => ⟨S128x32x512x1, .f32⟩
  | .hbm, ⟨74, _⟩ => ⟨S1x1x1x21, .f32⟩
  | .hbm, ⟨75, _⟩ => ⟨S128x32x512x21, .f32⟩
  | .hbm, ⟨76, _⟩ => ⟨S128x32x512x21, .f32⟩
  | .hbm, ⟨77, _⟩ => ⟨S128x32x512x21, .f32⟩
  | .hbm, ⟨78, _⟩ => ⟨S128x32x512x21, .f32⟩
  | .hbm, ⟨79, _⟩ => ⟨S128x32x512x21, .f32⟩
  | .hbm, ⟨80, _⟩ => ⟨S_, .f32⟩
  | .hbm, ⟨81, _⟩ => ⟨S21, .f32⟩
  | .hbm, ⟨82, _⟩ => ⟨S21, .f32⟩
  | .hbm, ⟨83, _⟩ => ⟨S21, .f32⟩
  | .hbm, ⟨84, _⟩ => ⟨S1x1x1x21, .f32⟩
  | .hbm, ⟨85, _⟩ => ⟨S128x32x512x21, .f32⟩
  | .hbm, ⟨86, _⟩ => ⟨S128x32x512x21, .f32⟩
  | .hbm, ⟨87, _⟩ => ⟨S128x32x512x21, .f32⟩
  | .hbm, ⟨88, _⟩ => ⟨S128x1x512x1, .f32⟩
  | .hbm, ⟨89, _⟩ => ⟨S128x32x512x21, .f32⟩
  | .hbm, ⟨90, _⟩ => ⟨S128x32x512x21, .f32⟩
  | .hbm, ⟨91, _⟩ => ⟨S_, .f32⟩
  | .hbm, ⟨92, _⟩ => ⟨S128x32x21, .f32⟩
  | .hbm, ⟨93, _⟩ => ⟨S_, .f32⟩
  | .hbm, ⟨94, _⟩ => ⟨S_, .f32⟩
  | .hbm, ⟨95, _⟩ => ⟨S128x32x21, .f32⟩
  | .hbm, ⟨96, _⟩ => ⟨S128x32x21, .f32⟩
  | .hbm, ⟨97, _⟩ => ⟨S128x32x21, .f32⟩
  | .hbm, ⟨98, _⟩ => ⟨S128x32x1, .f32⟩
  | .hbm, ⟨99, _⟩ => ⟨S128x32x21, .f32⟩
  | .hbm, ⟨100, _⟩ => ⟨S128x32x21, .f32⟩
  | .hbm, ⟨101, _⟩ => ⟨S_, .f32⟩
  | .hbm, ⟨102, _⟩ => ⟨S128x32x21, .f32⟩
  | .hbm, ⟨103, _⟩ => ⟨S128x32x21, .f32⟩
  | .hbm, ⟨104, _⟩ => ⟨S_, .f32⟩
  | .hbm, ⟨105, _⟩ => ⟨S128x21, .f32⟩
  | .hbm, ⟨106, _⟩ => ⟨S21x1, .f32⟩
  | .hbm, ⟨107, _⟩ => ⟨S128x1, .f32⟩
  | .hbm, ⟨108, _⟩ => ⟨S1x1, .f32⟩
  | .hbm, ⟨109, _⟩ => ⟨S128x1, .f32⟩
  | .hbm, ⟨110, _⟩ => ⟨S128x1, .f32⟩
  | .hbm, ⟨111, _⟩ => ⟨S128, .f32⟩
  | _, _ => ⟨S128x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_c_3 : Ref sig .tc := ⟨.hbm, 20, rfl⟩
abbrev main_v6 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Proof.RunK.lean ====
/- The kernel's run with the results in the statement: at the end the two result arrays hold the fold's last contents. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel's executions end, each result array at its last contents, the arguments
    as they were and every counter at zero. -/
theorem run_results : θ_run defs (onTc (τ := τ) (main (F := F))) ⟨m, fun _ => 0, ρ⟩ (fun r => (∀ c : Dev nD,
      r.2.mem ((c.tc : Thread nD τ).loc main_v0_0) = W9 m ρ c (Proc.devRef .tc main_v0_0)
      ∧ r.2.mem ((c.tc : Thread nD τ).loc main_v0_1) = W9 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v0_0 (by decide)), h c _ (mem_uc main_v0_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩), funext fun g => hz g (.inr (no_unscoped g.2))⟩)

end Cert.KernelIdeal.Value

end
-- ==== Proof.Block.lean ====
/- What one grid point of a region leaves in its two output blocks, as one function of its five input blocks. The four
   regions run the same body, so the function is stated once, over the payload terms of the first region. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Value

open Idealize.ShloMosaic Idealize.SL.Sem Cert.KernelIdeal Cert.KernelIdeal.Gen

variable {F : FTy → Type} [FloatOps F] [Named F]

/-- The origin of a rank-3 block. -/
theorem hz3 : (![0, 0, 0] : Fin 3 → Nat) = fun _ => 0 := funext fun a => by fin_cases a <;> rfl

/-- The first 32 rows of a block: the query's rows. -/
def qrows (x : Vec F S1x544x300 .f32) : Vec F S1x32x300 .f32 :=
  View.ld x (Rect.unit (s := S1x544x300) ![0, 0, 0] S1x32x300.size inb_S1x544x300_S1x32x300_0_0_0)

/-- The other 512 rows: the document's. -/
def drows (x : Vec F S1x544x300 .f32) : Vec F S1x512x300 .f32 :=
  View.ld x (Rect.unit (s := S1x544x300) ![0, 32, 0] S1x512x300.size inb_S1x544x300_S1x512x300_0_32_0)

/-- The one word of a length block. -/
def word (x : Vec F S1x1x1 .i32) : Elt F .i32 := x (ix3 0 0 0)

/-- A scalar load of a length block reads its one word. -/
theorem ld_word (x : Vec F S1x1x1 .i32) (inb) (h) :
    View.ld x (Rect.unit (s := S1x1x1) ![0, 0, 0] S1x1x1.size inb) (Shape.Idx.first h) = word x :=
  congrArg x (funext fun a => by fin_cases a <;> rfl)

/-- The 21 pooled features, from the similarities `s` (and the query rows, document rows and document length they came
    from) and the query length. -/
def feats (q : Vec F S1x32x300 .f32) (d : Vec F S1x512x300 .f32) (dl ql : Elt F .i32) : FVec F S1x21 .f32 :=
  k0_pay25 (k0_pay3 q d dl) (k0_pay4 q d dl) (k0_pay6 (k0_pay5 q d dl)) (k0_pay7 (k0_pay3 q d dl)) (k0_pay8 (k0_pay3 q d dl))
    (k0_pay9 (k0_pay3 q d dl)) (k0_pay10 (k0_pay3 q d dl)) (k0_pay12 (k0_pay11 (k0_pay3 q d dl))) (k0_pay13 (k0_pay3 q d dl))
    (k0_pay14 (k0_pay3 q d dl)) (k0_pay15 (k0_pay3 q d dl)) (k0_pay16 (k0_pay3 q d dl)) (k0_pay17 (k0_pay3 q d dl))
    (k0_pay19 (k0_pay18 (k0_pay3 q d dl))) (k0_pay20 (k0_pay3 q d dl)) (k0_pay21 (k0_pay3 q d dl)) (k0_pay22 (k0_pay3 q d dl))
    (k0_pay23 (k0_pay3 q d dl)) (k0_pay24 (k0_pay3 q d dl)) ql

/-- The block of features one grid point writes. -/
def outF (x0 : Vec F S1x544x300 .f32) (x1 x2 : Vec F S1x1x1 .i32) : Vec F S1x1x21 .f32 :=
  k0_pay1 (feats (qrows x0) (drows x0) (word x2) (word x1))

/-- The block holding the score one grid point writes. -/
def outS (x0 : Vec F S1x544x300 .f32) (x1 x2 : Vec F S1x1x1 .i32) (x3 : Vec F S1x1x21 .f32) (x4 : Vec F S1x1x1 .f32) :
    Vec F S1x1x1 .f32 :=
  k0_pay2 (feats (qrows x0) (drows x0) (word x2) (word x1)) x3 x4

/-- Region 0's output 5 at a grid point. -/
theorem out0_5_eq (c : Dev nD) (i : grid0.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out0_A_5 c i a1 h1 a2 h2 a3 h3 a4 h4 a5 h5 a6 h6 a7 h7 x0 x1 x2 x3 x4 = outF x0 x1 x2 := by
  unfold out0_A_5
  rw [View.read_writes_junk_eq_canon]
  unfold kernelRun0_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 0's output 6 at a grid point. -/
theorem out0_6_eq (c : Dev nD) (i : grid0.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out0_A_6 c i a1 h1 a2 h2 a3 h3 a4 h4 a5 h5 a6 h6 a7 h7 x0 x1 x2 x3 x4 = outS x0 x1 x2 x3 x4 := by
  unfold out0_A_6
  rw [View.read_writes_junk_eq_canon]
  unfold kernelRun0_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 1's output 5 at a grid point. -/
theorem out1_5_eq (c : Dev nD) (i : grid1.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out1_A_5 c i a1 h1 a2 h2 a3 h3 a4 h4 a5 h5 a6 h6 a7 h7 x0 x1 x2 x3 x4 = outF x0 x1 x2 := by
  unfold out1_A_5
  rw [View.read_writes_junk_eq_canon]
  unfold kernelRun1_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 1's output 6 at a grid point. -/
theorem out1_6_eq (c : Dev nD) (i : grid1.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out1_A_6 c i a1 h1 a2 h2 a3 h3 a4 h4 a5 h5 a6 h6 a7 h7 x0 x1 x2 x3 x4 = outS x0 x1 x2 x3 x4 := by
  unfold out1_A_6
  rw [View.read_writes_junk_eq_canon]
  unfold kernelRun1_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 2's output 5 at a grid point. -/
theorem out2_5_eq (c : Dev nD) (i : grid2.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out2_A_5 c i a1 h1 a2 h2 a3 h3 a4 h4 a5 h5 a6 h6 a7 h7 x0 x1 x2 x3 x4 = outF x0 x1 x2 := by
  unfold out2_A_5
  rw [View.read_writes_junk_eq_canon]
  unfold kernelRun2_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 2's output 6 at a grid point. -/
theorem out2_6_eq (c : Dev nD) (i : grid2.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out2_A_6 c i a1 h1 a2 h2 a3 h3 a4 h4 a5 h5 a6 h6 a7 h7 x0 x1 x2 x3 x4 = outS x0 x1 x2 x3 x4 := by
  unfold out2_A_6
  rw [View.read_writes_junk_eq_canon]
  unfold kernelRun2_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 3's output 5 at a grid point. -/
theorem out3_5_eq (c : Dev nD) (i : grid3.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out3_A_5 c i a1 h1 a2 h2 a3 h3 a4 h4 a5 h5 a6 h6 a7 h7 x0 x1 x2 x3 x4 = outF x0 x1 x2 := by
  unfold out3_A_5
  rw [View.read_writes_junk_eq_canon]
  unfold kernelRun3_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

/-- Region 3's output 6 at a grid point. -/
theorem out3_6_eq (c : Dev nD) (i : grid3.Coords) (a1 : Memref sig .tc .vmem S1x544x300 .f32) (h1 : a1.IsWhole) (a2 : Memref sig .tc .smem S1x1x1 .i32) (h2 : a2.IsWhole) (a3 : Memref sig .tc .smem S1x1x1 .i32) (h3 : a3.IsWhole) (a4 : Memref sig .tc .vmem S1x1x21 .f32) (h4 : a4.IsWhole) (a5 : Memref sig .tc .vmem S1x1x1 .f32) (h5 : a5.IsWhole) (a6 : Memref sig .tc .vmem S1x1x21 .f32) (h6 : a6.IsWhole) (a7 : Memref sig .tc .vmem S1x1x1 .f32) (h7 : a7.IsWhole)
    (x0 : Vec F S1x544x300 .f32) (x1 x2 : Vec F S1x1x1 .i32) (x3 : Vec F S1x1x21 .f32) (x4 : Vec F S1x1x1 .f32) :
    out3_A_6 c i a1 h1 a2 h2 a3 h3 a4 h4 a5 h5 a6 h6 a7 h7 x0 x1 x2 x3 x4 = outS x0 x1 x2 x3 x4 := by
  unfold out3_A_6
  rw [View.read_writes_junk_eq_canon]
  unfold kernelRun3_A
  dsimp only
  sl_unfold_words
  rw [View.canon_cons_unit_zero hz3]
  simp only [View.readAt_eq_ld, h1.read_unread, h2.read_unread, h3.read_unread, h4.read_unread, h5.read_unread,
    View.ld_unit_zero (S := S1x1x21) hz3, View.ld_unit_zero (S := S1x1x1) hz3]
  rw [ld_word, ld_word]
  rfl

end Cert.KernelIdeal.Value

end
-- ==== Proof.Region.lean ====
/- The two output arrays of each region, as functions of the arrays it reads: row `t` is what the body makes of row `t`. -/
module

public import proofs.«01_k».proof.Proof.Block
public import Idealize.ShloMosaic.Lib.Pipeline.ValueKit
public import Idealize.ShloMosaic.Lib.Pointwise

@[expose] public section

set_option maxRecDepth 16384

noncomputable section

namespace Cert.KernelIdeal.Value

open Idealize.ShloMosaic Idealize.SL.Sem Idealize.SL Idealize.ShloMosaic.TcCoe Cert.KernelIdeal Cert.KernelIdeal.Gen

variable {F : FTy → Type} [FloatOps F] [Named F]

/-- Row `t` of the looked-up rows, as a block. -/
def rowX (x : Vec F S32x544x300 .f32) (t : Fin 32) : Vec F S1x544x300 .f32 :=
  fun y => x (ix3 t ⟨(y 1).val, (y 1).isLt⟩ ⟨(y 2).val, (y 2).isLt⟩)

/-- Entry `t` of the lengths, as a block. -/
def rowN (n : Vec F S32x1x1 .i32) (t : Fin 32) : Vec F S1x1x1 .i32 := fun _ => n (ix3 t 0 0)

/-- A region's array of features. -/
def chunkF (x : Vec F S32x544x300 .f32) (ql dl : Vec F S32x1x1 .i32) : Vec F S32x1x21 .f32 :=
  fun i => outF (rowX x ⟨(i 0).val, (i 0).isLt⟩) (rowN ql ⟨(i 0).val, (i 0).isLt⟩) (rowN dl ⟨(i 0).val, (i 0).isLt⟩)
    (ix3 0 0 ⟨(i 2).val, (i 2).isLt⟩)

/-- A region's array of scores. -/
def chunkS (x : Vec F S32x544x300 .f32) (ql dl : Vec F S32x1x1 .i32) (w : Vec F S1x1x21 .f32) (b : Vec F S1x1x1 .f32) :
    Vec F S32x1x1 .f32 :=
  fun i => outS (rowX x ⟨(i 0).val, (i 0).isLt⟩) (rowN ql ⟨(i 0).val, (i 0).isLt⟩) (rowN dl ⟨(i 0).val, (i 0).isLt⟩) w b (ix3 0 0 0)

variable (V : (c : Dev nD) → (b : Ref sig .tc) → Buf (Elt F) ((c.tc : Thread nD τ).loc b))

/-- Region 0's block places: the batched windows at the grid point's row, the two others at the origin. -/
theorem idx0 : ∀ t : Fin cfg0.N, win0_0.index t = ![t.val, 0, 0] ∧ win0_1.index t = ![t.val, 0, 0] ∧ win0_2.index t = ![t.val, 0, 0]
    ∧ win0_3.index t = ![0, 0, 0] ∧ win0_4.index t = ![0, 0, 0] ∧ win0_5.index t = ![t.val, 0, 0]
    ∧ win0_6.index t = ![t.val, 0, 0] := (by decide +kernel : ∀ t : Fin grid0.N, _)

/-- The grid of region 0 has 32 points. -/
theorem lt0 (t : Fin cfg0.N) : t.val < 32 := lt_of_lt_of_eq t.isLt (by decide +kernel : grid0.N = 32)

set_option maxHeartbeats 2000000 in
/-- Region 0's input blocks at a point. -/
theorem blocks0 (c : Dev nD) (t : Fin cfg0.N) :
    iblk0 V c 0 t = rowX (V c main_call0_v12) ⟨t.val, lt0 t⟩
    ∧ iblk0 V c 1 t = rowN (V c main_call0_v13) ⟨t.val, lt0 t⟩
    ∧ iblk0 V c 2 t = rowN (V c main_call0_v14) ⟨t.val, lt0 t⟩
    ∧ iblk0 V c 3 t = V c main_call0_v3 ∧ iblk0 V c 4 t = V c main_call0_v4 := by
  obtain ⟨e0, e1, e2, e3, e4, -, -⟩ := idx0 t
  refine ⟨funext fun y => ?_, funext fun y => ?_, funext fun y => ?_, funext fun y => ?_, funext fun y => ?_⟩
  · show V c main_call0_v12 (((cfg0.win 0).blk t).view.emb y) = V c main_call0_v12 _
    blk_ext [e0]
  · show V c main_call0_v13 (((cfg0.win 1).blk t).view.emb y) = V c main_call0_v13 _
    blk_ext [e1]
  · show V c main_call0_v14 (((cfg0.win 2).blk t).view.emb y) = V c main_call0_v14 _
    blk_ext [e2]
  · show V c main_call0_v3 (((cfg0.win 3).blk t).view.emb y) = V c main_call0_v3 y
    blk_ext [e3]
  · show V c main_call0_v4 (((cfg0.win 4).blk t).view.emb y) = V c main_call0_v4 y
    blk_ext [e4]

set_option maxHeartbeats 2000000 in
/-- Region 0's array of features. -/
theorem region0_F (c : Dev nD) : (dat0 V c).arrAt 5 cfg0.N
    = chunkF (V c main_call0_v12) (V c main_call0_v13) (V c main_call0_v14) := by
  refine (dat0 V c).arrAt_eq_of_covers 5 _ (by decide +kernel) fun t hf y => ?_
  obtain ⟨-, -, -, -, -, e5, -⟩ := idx0 t
  obtain ⟨b0, b1, b2, b3, b4⟩ := blocks0 V c t
  have hy : y = ix3 0 0 ⟨(y 2).val, (y 2).isLt⟩ := by blk_ext []
  have hp : ((cfg0.win 5).blk t).view.emb y = (ix3 ⟨t.val, lt0 t⟩ 0 ⟨(y 2).val, (y 2).isLt⟩ : S32x1x21.Idx) := by blk_ext [e5]
  rw [hp, after0_5]
  show (outsAt0 V c t).1 y = outF (rowX _ ⟨t.val, lt0 t⟩) (rowN _ ⟨t.val, lt0 t⟩) (rowN _ ⟨t.val, lt0 t⟩) (ix3 0 0 ⟨(y 2).val, (y 2).isLt⟩)
  unfold outsAt0
  dsimp only
  rw [out0_5_eq, b0, b1, b2]
  exact congrArg _ hy

set_option maxHeartbeats 2000000 in
/-- Region 0's array of scores. -/
theorem region0_S (c : Dev nD) : (dat0 V c).arrAt 6 cfg0.N
    = chunkS (V c main_call0_v12) (V c main_call0_v13) (V c main_call0_v14) (V c main_call0_v3) (V c main_call0_v4) := by
  refine (dat0 V c).arrAt_eq_of_covers 6 _ (by decide +kernel) fun t hf y => ?_
  obtain ⟨-, -, -, -, -, -, e6⟩ := idx0 t
  obtain ⟨b0, b1, b2, b3, b4⟩ := blocks0 V c t
  have hy : y = ix3 0 0 0 := by blk_ext []
  have hp : ((cfg0.win 6).blk t).view.emb y = (ix3 ⟨t.val, lt0 t⟩ 0 0 : S32x1x1.Idx) := by blk_ext [e6]
  rw [hp, after0_6]
  show (outsAt0 V c t).2 y = outS (rowX _ ⟨t.val, lt0 t⟩) (rowN _ ⟨t.val, lt0 t⟩) (rowN _ ⟨t.val, lt0 t⟩) _ _ (ix3 0 0 0)
  unfold outsAt0
  dsimp only
  rw [out0_6_eq, b0, b1, b2, b3, b4]
  exact congrArg _ hy

/-- Region 1's block places: the batched windows at the grid point's row, the two others at the origin. -/
theorem idx1 : ∀ t : Fin cfg1.N, win1_0.index t = ![t.val, 0, 0] ∧ win1_1.index t = ![t.val, 0, 0] ∧ win1_2.index t = ![t.val, 0, 0]
    ∧ win1_3.index t = ![0, 0, 0] ∧ win1_4.index t = ![0, 0, 0] ∧ win1_5.index t = ![t.val, 0, 0]
    ∧ win1_6.index t = ![t.val, 0, 0] := (by decide +kernel : ∀ t : Fin grid1.N, _)

/-- The grid of region 1 has 32 points. -/
theorem lt1 (t : Fin cfg1.N) : t.val < 32 := lt_of_lt_of_eq t.isLt (by decide +kernel : grid1.N = 32)

set_option maxHeartbeats 2000000 in
/-- Region 1's input blocks at a point. -/
theorem blocks1 (c : Dev nD) (t : Fin cfg1.N) :
    iblk1 V c 0 t = rowX (V c main_call0_v23) ⟨t.val, lt1 t⟩
    ∧ iblk1 V c 1 t = rowN (V c main_call0_v24) ⟨t.val, lt1 t⟩
    ∧ iblk1 V c 2 t = rowN (V c main_call0_v25) ⟨t.val, lt1 t⟩
    ∧ iblk1 V c 3 t = V c main_call0_v3 ∧ iblk1 V c 4 t = V c main_call0_v4 := by
  obtain ⟨e0, e1, e2, e3, e4, -, -⟩ := idx1 t
  refine ⟨funext fun y => ?_, funext fun y => ?_, funext fun y => ?_, funext fun y => ?_, funext fun y => ?_⟩
  · show V c main_call0_v23 (((cfg1.win 0).blk t).view.emb y) = V c main_call0_v23 _
    blk_ext [e0]
  · show V c main_call0_v24 (((cfg1.win 1).blk t).view.emb y) = V c main_call0_v24 _
    blk_ext [e1]
  · show V c main_call0_v25 (((cfg1.win 2).blk t).view.emb y) = V c main_call0_v25 _
    blk_ext [e2]
  · show V c main_call0_v3 (((cfg1.win 3).blk t).view.emb y) = V c main_call0_v3 y
    blk_ext [e3]
  · show V c main_call0_v4 (((cfg1.win 4).blk t).view.emb y) = V c main_call0_v4 y
    blk_ext [e4]

set_option maxHeartbeats 2000000 in
/-- Region 1's array of features. -/
theorem region1_F (c : Dev nD) : (dat1 V c).arrAt 5 cfg1.N
    = chunkF (V c main_call0_v23) (V c main_call0_v24) (V c main_call0_v25) := by
  refine (dat1 V c).arrAt_eq_of_covers 5 _ (by decide +kernel) fun t hf y => ?_
  obtain ⟨-, -, -, -, -, e5, -⟩ := idx1 t
  obtain ⟨b0, b1, b2, b3, b4⟩ := blocks1 V c t
  have hy : y = ix3 0 0 ⟨(y 2).val, (y 2).isLt⟩ := by blk_ext []
  have hp : ((cfg1.win 5).blk t).view.emb y = (ix3 ⟨t.val, lt1 t⟩ 0 ⟨(y 2).val, (y 2).isLt⟩ : S32x1x21.Idx) := by blk_ext [e5]
  rw [hp, after1_5]
  show (outsAt1 V c t).1 y = outF (rowX _ ⟨t.val, lt1 t⟩) (rowN _ ⟨t.val, lt1 t⟩) (rowN _ ⟨t.val, lt1 t⟩) (ix3 0 0 ⟨(y 2).val, (y 2).isLt⟩)
  unfold outsAt1
  dsimp only
  rw [out1_5_eq, b0, b1, b2]
  exact congrArg _ hy

set_option maxHeartbeats 2000000 in
/-- Region 1's array of scores. -/
theorem region1_S (c : Dev nD) : (dat1 V c).arrAt 6 cfg1.N
    = chunkS (V c main_call0_v23) (V c main_call0_v24) (V c main_call0_v25) (V c main_call0_v3) (V c main_call0_v4) := by
  refine (dat1 V c).arrAt_eq_of_covers 6 _ (by decide +kernel) fun t hf y => ?_
  obtain ⟨-, -, -, -, -, -, e6⟩ := idx1 t
  obtain ⟨b0, b1, b2, b3, b4⟩ := blocks1 V c t
  have hy : y = ix3 0 0 0 := by blk_ext []
  have hp : ((cfg1.win 6).blk t).view.emb y = (ix3 ⟨t.val, lt1 t⟩ 0 0 : S32x1x1.Idx) := by blk_ext [e6]
  rw [hp, after1_6]
  show (outsAt1 V c t).2 y = outS (rowX _ ⟨t.val, lt1 t⟩) (rowN _ ⟨t.val, lt1 t⟩) (rowN _ ⟨t.val, lt1 t⟩) _ _ (ix3 0 0 0)
  unfold outsAt1
  dsimp only
  rw [out1_6_eq, b0, b1, b2, b3, b4]
  exact congrArg _ hy

/-- Region 2's block places: the batched windows at the grid point's row, the two others at the origin. -/
theorem idx2 : ∀ t : Fin cfg2.N, win2_0.index t = ![t.val, 0, 0] ∧ win2_1.index t = ![t.val, 0, 0] ∧ win2_2.index t = ![t.val, 0, 0]
    ∧ win2_3.index t = ![0, 0, 0] ∧ win2_4.index t = ![0, 0, 0] ∧ win2_5.index t = ![t.val, 0, 0]
    ∧ win2_6.index t = ![t.val, 0, 0] := (by decide +kernel : ∀ t : Fin grid2.N, _)

/-- The grid of region 2 has 32 points. -/
theorem lt2 (t : Fin cfg2.N) : t.val < 32 := lt_of_lt_of_eq t.isLt (by decide +kernel : grid2.N = 32)

set_option maxHeartbeats 2000000 in
/-- Region 2's input blocks at a point. -/
theorem blocks2 (c : Dev nD) (t : Fin cfg2.N) :
    iblk2 V c 0 t = rowX (V c main_call0_v34) ⟨t.val, lt2 t⟩
    ∧ iblk2 V c 1 t = rowN (V c main_call0_v35) ⟨t.val, lt2 t⟩
    ∧ iblk2 V c 2 t = rowN (V c main_call0_v36) ⟨t.val, lt2 t⟩
    ∧ iblk2 V c 3 t = V c main_call0_v3 ∧ iblk2 V c 4 t = V c main_call0_v4 := by
  obtain ⟨e0, e1, e2, e3, e4, -, -⟩ := idx2 t
  refine ⟨funext fun y => ?_, funext fun y => ?_, funext fun y => ?_, funext fun y => ?_, funext fun y => ?_⟩
  · show V c main_call0_v34 (((cfg2.win 0).blk t).view.emb y) = V c main_call0_v34 _
    blk_ext [e0]
  · show V c main_call0_v35 (((cfg2.win 1).blk t).view.emb y) = V c main_call0_v35 _
    blk_ext [e1]
  · show V c main_call0_v36 (((cfg2.win 2).blk t).view.emb y) = V c main_call0_v36 _
    blk_ext [e2]
  · show V c main_call0_v3 (((cfg2.win 3).blk t).view.emb y) = V c main_call0_v3 y
    blk_ext [e3]
  · show V c main_call0_v4 (((cfg2.win 4).blk t).view.emb y) = V c main_call0_v4 y
    blk_ext [e4]

set_option maxHeartbeats 2000000 in
/-- Region 2's array of features. -/
theorem region2_F (c : Dev nD) : (dat2 V c).arrAt 5 cfg2.N
    = chunkF (V c main_call0_v34) (V c main_call0_v35) (V c main_call0_v36) := by
  refine (dat2 V c).arrAt_eq_of_covers 5 _ (by decide +kernel) fun t hf y => ?_
  obtain ⟨-, -, -, -, -, e5, -⟩ := idx2 t
  obtain ⟨b0, b1, b2, b3, b4⟩ := blocks2 V c t
  have hy : y = ix3 0 0 ⟨(y 2).val, (y 2).isLt⟩ := by blk_ext []
  have hp : ((cfg2.win 5).blk t).view.emb y = (ix3 ⟨t.val, lt2 t⟩ 0 ⟨(y 2).val, (y 2).isLt⟩ : S32x1x21.Idx) := by blk_ext [e5]
  rw [hp, after2_5]
  show (outsAt2 V c t).1 y = outF (rowX _ ⟨t.val, lt2 t⟩) (rowN _ ⟨t.val, lt2 t⟩) (rowN _ ⟨t.val, lt2 t⟩) (ix3 0 0 ⟨(y 2).val, (y 2).isLt⟩)
  unfold outsAt2
  dsimp only
  rw [out2_5_eq, b0, b1, b2]
  exact congrArg _ hy

set_option maxHeartbeats 2000000 in
/-- Region 2's array of scores. -/
theorem region2_S (c : Dev nD) : (dat2 V c).arrAt 6 cfg2.N
    = chunkS (V c main_call0_v34) (V c main_call0_v35) (V c main_call0_v36) (V c main_call0_v3) (V c main_call0_v4) := by
  refine (dat2 V c).arrAt_eq_of_covers 6 _ (by decide +kernel) fun t hf y => ?_
  obtain ⟨-, -, -, -, -, -, e6⟩ := idx2 t
  obtain ⟨b0, b1, b2, b3, b4⟩ := blocks2 V c t
  have hy : y = ix3 0 0 0 := by blk_ext []
  have hp : ((cfg2.win 6).blk t).view.emb y = (ix3 ⟨t.val, lt2 t⟩ 0 0 : S32x1x1.Idx) := by blk_ext [e6]
  rw [hp, after2_6]
  show (outsAt2 V c t).2 y = outS (rowX _ ⟨t.val, lt2 t⟩) (rowN _ ⟨t.val, lt2 t⟩) (rowN _ ⟨t.val, lt2 t⟩) _ _ (ix3 0 0 0)
  unfold outsAt2
  dsimp only
  rw [out2_6_eq, b0, b1, b2, b3, b4]
  exact congrArg _ hy

/-- Region 3's block places: the batched windows at the grid point's row, the two others at the origin. -/
theorem idx3 : ∀ t : Fin cfg3.N, win3_0.index t = ![t.val, 0, 0] ∧ win3_1.index t = ![t.val, 0, 0] ∧ win3_2.index t = ![t.val, 0, 0]
    ∧ win3_3.index t = ![0, 0, 0] ∧ win3_4.index t = ![0, 0, 0] ∧ win3_5.index t = ![t.val, 0, 0]
    ∧ win3_6.index t = ![t.val, 0, 0] := (by decide +kernel : ∀ t : Fin grid3.N, _)

/-- The grid of region 3 has 32 points. -/
theorem lt3 (t : Fin cfg3.N) : t.val < 32 := lt_of_lt_of_eq t.isLt (by decide +kernel : grid3.N = 32)

set_option maxHeartbeats 2000000 in
/-- Region 3's input blocks at a point. -/
theorem blocks3 (c : Dev nD) (t : Fin cfg3.N) :
    iblk3 V c 0 t = rowX (V c main_call0_v45) ⟨t.val, lt3 t⟩
    ∧ iblk3 V c 1 t = rowN (V c main_call0_v46) ⟨t.val, lt3 t⟩
    ∧ iblk3 V c 2 t = rowN (V c main_call0_v47) ⟨t.val, lt3 t⟩
    ∧ iblk3 V c 3 t = V c main_call0_v3 ∧ iblk3 V c 4 t = V c main_call0_v4 := by
  obtain ⟨e0, e1, e2, e3, e4, -, -⟩ := idx3 t
  refine ⟨funext fun y => ?_, funext fun y => ?_, funext fun y => ?_, funext fun y => ?_, funext fun y => ?_⟩
  · show V c main_call0_v45 (((cfg3.win 0).blk t).view.emb y) = V c main_call0_v45 _
    blk_ext [e0]
  · show V c main_call0_v46 (((cfg3.win 1).blk t).view.emb y) = V c main_call0_v46 _
    blk_ext [e1]
  · show V c main_call0_v47 (((cfg3.win 2).blk t).view.emb y) = V c main_call0_v47 _
    blk_ext [e2]
  · show V c main_call0_v3 (((cfg3.win 3).blk t).view.emb y) = V c main_call0_v3 y
    blk_ext [e3]
  · show V c main_call0_v4 (((cfg3.win 4).blk t).view.emb y) = V c main_call0_v4 y
    blk_ext [e4]

set_option maxHeartbeats 2000000 in
/-- Region 3's array of features. -/
theorem region3_F (c : Dev nD) : (dat3 V c).arrAt 5 cfg3.N
    = chunkF (V c main_call0_v45) (V c main_call0_v46) (V c main_call0_v47) := by
  refine (dat3 V c).arrAt_eq_of_covers 5 _ (by decide +kernel) fun t hf y => ?_
  obtain ⟨-, -, -, -, -, e5, -⟩ := idx3 t
  obtain ⟨b0, b1, b2, b3, b4⟩ := blocks3 V c t
  have hy : y = ix3 0 0 ⟨(y 2).val, (y 2).isLt⟩ := by blk_ext []
  have hp : ((cfg3.win 5).blk t).view.emb y = (ix3 ⟨t.val, lt3 t⟩ 0 ⟨(y 2).val, (y 2).isLt⟩ : S32x1x21.Idx) := by blk_ext [e5]
  rw [hp, after3_5]
  show (outsAt3 V c t).1 y = outF (rowX _ ⟨t.val, lt3 t⟩) (rowN _ ⟨t.val, lt3 t⟩) (rowN _ ⟨t.val, lt3 t⟩) (ix3 0 0 ⟨(y 2).val, (y 2).isLt⟩)
  unfold outsAt3
  dsimp only
  rw [out3_5_eq, b0, b1, b2]
  exact congrArg _ hy

set_option maxHeartbeats 2000000 in
/-- Region 3's array of scores. -/
theorem region3_S (c : Dev nD) : (dat3 V c).arrAt 6 cfg3.N
    = chunkS (V c main_call0_v45) (V c main_call0_v46) (V c main_call0_v47) (V c main_call0_v3) (V c main_call0_v4) := by
  refine (dat3 V c).arrAt_eq_of_covers 6 _ (by decide +kernel) fun t hf y => ?_
  obtain ⟨-, -, -, -, -, -, e6⟩ := idx3 t
  obtain ⟨b0, b1, b2, b3, b4⟩ := blocks3 V c t
  have hy : y = ix3 0 0 0 := by blk_ext []
  have hp : ((cfg3.win 6).blk t).view.emb y = (ix3 ⟨t.val, lt3 t⟩ 0 0 : S32x1x1.Idx) := by blk_ext [e6]
  rw [hp, after3_6]
  show (outsAt3 V c t).2 y = outS (rowX _ ⟨t.val, lt3 t⟩) (rowN _ ⟨t.val, lt3 t⟩) (rowN _ ⟨t.val, lt3 t⟩) _ _ (ix3 0 0 0)
  unfold outsAt3
  dsimp only
  rw [out3_6_eq, b0, b1, b2, b3, b4]
  exact congrArg _ hy

end Cert.KernelIdeal.Value

end
-- ==== Proof.HostLines.lean ====
/- The host operations around the four regions, each stretch read at the buffers the next region takes; and the arrays the
   regions are entered with, in terms of the arguments. -/
module

public import proofs.«01_k».proof.Proof.Region
public import Idealize.ShloMosaic.Lib.StableHlo.RunRead
public import Idealize.ShloMosaic.Lib.Tactic.CleanTypes

@[expose] public section

set_option maxRecDepth 16384

noncomputable section

namespace Cert.KernelIdeal.Value

open Idealize.ShloMosaic Idealize.SL.Sem Idealize.SL Idealize.ShloMosaic.TcCoe Cert.KernelIdeal Cert.KernelIdeal.Gen

variable {F : FTy → Type} [FloatOps F] [Named F]

/-- The query's and the document's indices side by side. -/
def bothIx (q : Vec F S128x32 .i32) (d : Vec F S128x512 .i32) : Vec F S128x544 .i32 :=
  concatenate S128x544 1 [⟨S128x32, q⟩, ⟨S128x512, d⟩] concatenates_S128x32_S128x512_S128x544_d1

/-- The lengths as a column of blocks. -/
def lens (n : Vec F S128 .i32) : Vec F S128x1x1 .i32 := shapeCast S128x1x1 n shapeCasts_S128_S128x1x1

/-- The score's weights as a block. -/
def wts (w : Vec F S1x21 .f32) : Vec F S1x1x21 .f32 := shapeCast S1x1x21 w shapeCasts_S1x21_S1x1x21

/-- The score's bias as a block. -/
def bias (b : Vec F S1 .f32) : Vec F S1x1x1 .f32 := shapeCast S1x1x1 b shapeCasts_S1_S1x1x1

/-- The table's rows at 32 batch entries' indices, an index below zero counted from the end. -/
def look (tab : Vec F S50000x300 .f32) (ix : Vec F S32x544 .i32) : Vec F S32x544x300 .f32 :=
  Host.gather gather_S50000x300_S32x544x1_S32x544x300_2_0_n_n_0_2_1300 tab
    (broadcastInDim S32x544x1 ![0, 1] bcast_S32x544_S32x544x1_0_1
      (select (cmpi .slt ix (broadcastInDim S32x544 ![] bcast_S_S32x544 (constantI S_ 32 0#32)))
        (addi ix (broadcastInDim S32x544 ![] bcast_S_S32x544 (constantI S_ 32 50000#32))) ix))

section stretches

variable (U : Valuation τ sig (Elt F))

/-- The first stretch's shared arrays. -/
theorem host0_shared : StableHlo.after hostOps0 U (Proc.devRef .tc main_call0_v0) = bothIx (U (Proc.devRef .tc main_arg0)) (U (Proc.devRef .tc main_arg1))
    ∧ StableHlo.after hostOps0 U (Proc.devRef .tc main_call0_v1) = lens (U (Proc.devRef .tc main_arg2))
    ∧ StableHlo.after hostOps0 U (Proc.devRef .tc main_call0_v2) = lens (U (Proc.devRef .tc main_arg3))
    ∧ StableHlo.after hostOps0 U (Proc.devRef .tc main_call0_v3) = wts (U (Proc.devRef .tc main_arg5))
    ∧ StableHlo.after hostOps0 U (Proc.devRef .tc main_call0_v4) = bias (U (Proc.devRef .tc main_arg6)) := by
  refine ⟨?_, ?_, ?_, ?_, ?_⟩
  all_goals
    after_results_simp
    rfl

/-- What the stretch before region 0 leaves for it: rows, query lengths, document lengths of entries 0 to 31. -/
theorem host0_inputs : StableHlo.after hostOps0 U (Proc.devRef .tc main_call0_v12)
      = look (U (Proc.devRef .tc main_arg4)) (extractStridedSlice S32x544 ![0, 0] (bothIx (U (Proc.devRef .tc main_arg0)) (U (Proc.devRef .tc main_arg1))) slices_S128x544_S32x544_0_0)
    ∧ StableHlo.after hostOps0 U (Proc.devRef .tc main_call0_v13) = extractStridedSlice S32x1x1 ![0, 0, 0] (lens (U (Proc.devRef .tc main_arg2))) slices_S128x1x1_S32x1x1_0_0_0
    ∧ StableHlo.after hostOps0 U (Proc.devRef .tc main_call0_v14) = extractStridedSlice S32x1x1 ![0, 0, 0] (lens (U (Proc.devRef .tc main_arg3))) slices_S128x1x1_S32x1x1_0_0_0 := by
  refine ⟨?_, ?_, ?_⟩
  all_goals
    after_results_simp
    rfl

/-- What the stretch before region 1 leaves for it: rows, query lengths, document lengths of entries 32 to 63. -/
theorem host1_inputs : StableHlo.after hostOps1 U (Proc.devRef .tc main_call0_v23)
      = look (U (Proc.devRef .tc main_arg4)) (extractStridedSlice S32x544 ![32, 0] (U (Proc.devRef .tc main_call0_v0)) slices_S128x544_S32x544_32_0)
    ∧ StableHlo.after hostOps1 U (Proc.devRef .tc main_call0_v24) = extractStridedSlice S32x1x1 ![32, 0, 0] (U (Proc.devRef .tc main_call0_v1)) slices_S128x1x1_S32x1x1_32_0_0
    ∧ StableHlo.after hostOps1 U (Proc.devRef .tc main_call0_v25) = extractStridedSlice S32x1x1 ![32, 0, 0] (U (Proc.devRef .tc main_call0_v2)) slices_S128x1x1_S32x1x1_32_0_0 := by
  refine ⟨?_, ?_, ?_⟩
  all_goals
    after_results_simp
    rfl

/-- What the stretch before region 2 leaves for it: rows, query lengths, document lengths of entries 64 to 95. -/
theorem host2_inputs : StableHlo.after hostOps2 U (Proc.devRef .tc main_call0_v34)
      = look (U (Proc.devRef .tc main_arg4)) (extractStridedSlice S32x544 ![64, 0] (U (Proc.devRef .tc main_call0_v0)) slices_S128x544_S32x544_64_0)
    ∧ StableHlo.after hostOps2 U (Proc.devRef .tc main_call0_v35) = extractStridedSlice S32x1x1 ![64, 0, 0] (U (Proc.devRef .tc main_call0_v1)) slices_S128x1x1_S32x1x1_64_0_0
    ∧ StableHlo.after hostOps2 U (Proc.devRef .tc main_call0_v36) = extractStridedSlice S32x1x1 ![64, 0, 0] (U (Proc.devRef .tc main_call0_v2)) slices_S128x1x1_S32x1x1_64_0_0 := by
  refine ⟨?_, ?_, ?_⟩
  all_goals
    after_results_simp
    rfl

/-- What the stretch before region 3 leaves for it: rows, query lengths, document lengths of entries 96 to 127. -/
theorem host3_inputs : StableHlo.after hostOps3 U (Proc.devRef .tc main_call0_v45)
      = look (U (Proc.devRef .tc main_arg4)) (extractStridedSlice S32x544 ![96, 0] (U (Proc.devRef .tc main_call0_v0)) slices_S128x544_S32x544_96_0)
    ∧ StableHlo.after hostOps3 U (Proc.devRef .tc main_call0_v46) = extractStridedSlice S32x1x1 ![96, 0, 0] (U (Proc.devRef .tc main_call0_v1)) slices_S128x1x1_S32x1x1_96_0_0
    ∧ StableHlo.after hostOps3 U (Proc.devRef .tc main_call0_v47) = extractStridedSlice S32x1x1 ![96, 0, 0] (U (Proc.devRef .tc main_call0_v2)) slices_S128x1x1_S32x1x1_96_0_0 := by
  refine ⟨?_, ?_, ?_⟩
  all_goals
    after_results_simp
    rfl

/-- The last stretch: the regions' arrays joined, the middle axis dropped. -/
theorem host4_results : StableHlo.after hostOps4 U (Proc.devRef .tc main_v0_0)
      = shapeCast S128 (concatenate S128x1x1 0 [⟨S32x1x1, (U (Proc.devRef .tc main_call0_v15_1) : Vec F S32x1x1 .f32)⟩, ⟨S32x1x1, (U (Proc.devRef .tc main_call0_v26_1) : Vec F S32x1x1 .f32)⟩, ⟨S32x1x1, (U (Proc.devRef .tc main_call0_v37_1) : Vec F S32x1x1 .f32)⟩, ⟨S32x1x1, (U (Proc.devRef .tc main_call0_v48_1) : Vec F S32x1x1 .f32)⟩] concatenates_S32x1x1_S32x1x1_S32x1x1_S32x1x1_S128x1x1_d0) shapeCasts_S128x1x1_S128
    ∧ StableHlo.after hostOps4 U (Proc.devRef .tc main_v0_1)
      = shapeCast S128x21 (concatenate S128x1x21 0 [⟨S32x1x21, (U (Proc.devRef .tc main_call0_v15_0) : Vec F S32x1x21 .f32)⟩, ⟨S32x1x21, (U (Proc.devRef .tc main_call0_v26_0) : Vec F S32x1x21 .f32)⟩, ⟨S32x1x21, (U (Proc.devRef .tc main_call0_v37_0) : Vec F S32x1x21 .f32)⟩, ⟨S32x1x21, (U (Proc.devRef .tc main_call0_v48_0) : Vec F S32x1x21 .f32)⟩] concatenates_S32x1x21_S32x1x21_S32x1x21_S32x1x21_S128x1x21_d0) shapeCasts_S128x1x21_S128x21 := by
  refine ⟨?_, ?_⟩
  all_goals
    after_results_simp
    rfl

end stretches

/-! ### The chunks in terms of the arguments -/

variable (m : (ℓ : Loc nD τ sig) → Buf (Elt F) ℓ) (ρ : Dev nD → PrngReg)

/-- The arguments' joined indices, lengths, weights and bias on a core. -/
abbrev ixOf (c : Dev nD) : Vec F S128x544 .i32 := bothIx (m ((c.tc : Thread nD τ).loc main_arg0)) (m ((c.tc : Thread nD τ).loc main_arg1))
abbrev qlOf (c : Dev nD) : Vec F S128x1x1 .i32 := lens (m ((c.tc : Thread nD τ).loc main_arg2))
abbrev dlOf (c : Dev nD) : Vec F S128x1x1 .i32 := lens (m ((c.tc : Thread nD τ).loc main_arg3))
abbrev tabOf (c : Dev nD) : Vec F S50000x300 .f32 := m ((c.tc : Thread nD τ).loc main_arg4)
abbrev wOf (c : Dev nD) : Vec F S1x1x21 .f32 := wts (m ((c.tc : Thread nD τ).loc main_arg5))
abbrev bOf (c : Dev nD) : Vec F S1x1x1 .f32 := bias (m ((c.tc : Thread nD τ).loc main_arg6))

/-- The arrays that every later stretch and region reads and none writes. -/
def Shared (c : Dev nD) (W : Valuation τ sig (Elt F)) : Prop :=
  W (Proc.devRef .tc main_call0_v0) = ixOf m c ∧ W (Proc.devRef .tc main_call0_v1) = qlOf m c ∧ W (Proc.devRef .tc main_call0_v2) = dlOf m c
    ∧ W (Proc.devRef .tc main_call0_v3) = wOf m c ∧ W (Proc.devRef .tc main_call0_v4) = bOf m c

/-- The shared arrays hold these contents at boundary 1 of the run. -/
theorem shared1 (c : Dev nD) : Shared m c (W1 m ρ c) := host0_shared (W0 m ρ c)

/-- The shared arrays hold these contents at boundary 2 of the run. -/
theorem shared2 (c : Dev nD) : Shared m c (W2 m ρ c) := by
  obtain ⟨h0, h1, h2, h3, h4⟩ := shared1 m ρ c
  exact ⟨(W2_of m ρ c main_call0_v0 (by decide +kernel)).trans h0, (W2_of m ρ c main_call0_v1 (by decide +kernel)).trans h1,
    (W2_of m ρ c main_call0_v2 (by decide +kernel)).trans h2, (W2_of m ρ c main_call0_v3 (by decide +kernel)).trans h3,
    (W2_of m ρ c main_call0_v4 (by decide +kernel)).trans h4⟩

/-- The shared arrays hold these contents at boundary 3 of the run. -/
theorem shared3 (c : Dev nD) : Shared m c (W3 m ρ c) := by
  obtain ⟨h0, h1, h2, h3, h4⟩ := shared2 m ρ c
  exact ⟨(W3_of m ρ c main_call0_v0 (by decide +kernel)).trans h0, (W3_of m ρ c main_call0_v1 (by decide +kernel)).trans h1,
    (W3_of m ρ c main_call0_v2 (by decide +kernel)).trans h2, (W3_of m ρ c main_call0_v3 (by decide +kernel)).trans h3,
    (W3_of m ρ c main_call0_v4 (by decide +kernel)).trans h4⟩

/-- The shared arrays hold these contents at boundary 4 of the run. -/
theorem shared4 (c : Dev nD) : Shared m c (W4 m ρ c) := by
  obtain ⟨h0, h1, h2, h3, h4⟩ := shared3 m ρ c
  exact ⟨(W4_of m ρ c main_call0_v0 (by decide +kernel)).trans h0, (W4_of m ρ c main_call0_v1 (by decide +kernel)).trans h1,
    (W4_of m ρ c main_call0_v2 (by decide +kernel)).trans h2, (W4_of m ρ c main_call0_v3 (by decide +kernel)).trans h3,
    (W4_of m ρ c main_call0_v4 (by decide +kernel)).trans h4⟩

/-- The shared arrays hold these contents at boundary 5 of the run. -/
theorem shared5 (c : Dev nD) : Shared m c (W5 m ρ c) := by
  obtain ⟨h0, h1, h2, h3, h4⟩ := shared4 m ρ c
  exact ⟨(W5_of m ρ c main_call0_v0 (by decide +kernel)).trans h0, (W5_of m ρ c main_call0_v1 (by decide +kernel)).trans h1,
    (W5_of m ρ c main_call0_v2 (by decide +kernel)).trans h2, (W5_of m ρ c main_call0_v3 (by decide +kernel)).trans h3,
    (W5_of m ρ c main_call0_v4 (by decide +kernel)).trans h4⟩

/-- The shared arrays hold these contents at boundary 6 of the run. -/
theorem shared6 (c : Dev nD) : Shared m c (W6 m ρ c) := by
  obtain ⟨h0, h1, h2, h3, h4⟩ := shared5 m ρ c
  exact ⟨(W6_of m ρ c main_call0_v0 (by decide +kernel)).trans h0, (W6_of m ρ c main_call0_v1 (by decide +kernel)).trans h1,
    (W6_of m ρ c main_call0_v2 (by decide +kernel)).trans h2, (W6_of m ρ c main_call0_v3 (by decide +kernel)).trans h3,
    (W6_of m ρ c main_call0_v4 (by decide +kernel)).trans h4⟩

/-- The shared arrays hold these contents at boundary 7 of the run. -/
theorem shared7 (c : Dev nD) : Shared m c (W7 m ρ c) := by
  obtain ⟨h0, h1, h2, h3, h4⟩ := shared6 m ρ c
  exact ⟨(W7_of m ρ c main_call0_v0 (by decide +kernel)).trans h0, (W7_of m ρ c main_call0_v1 (by decide +kernel)).trans h1,
    (W7_of m ρ c main_call0_v2 (by decide +kernel)).trans h2, (W7_of m ρ c main_call0_v3 (by decide +kernel)).trans h3,
    (W7_of m ρ c main_call0_v4 (by decide +kernel)).trans h4⟩

/-- Region 0's features and scores. -/
def feat0 (c : Dev nD) : Vec F S32x1x21 .f32 :=
  chunkF (look (tabOf m c) (extractStridedSlice S32x544 ![0, 0] (ixOf m c) slices_S128x544_S32x544_0_0))
      (extractStridedSlice S32x1x1 ![0, 0, 0] (qlOf m c) slices_S128x1x1_S32x1x1_0_0_0)
      (extractStridedSlice S32x1x1 ![0, 0, 0] (dlOf m c) slices_S128x1x1_S32x1x1_0_0_0)
def scor0 (c : Dev nD) : Vec F S32x1x1 .f32 :=
  chunkS (look (tabOf m c) (extractStridedSlice S32x544 ![0, 0] (ixOf m c) slices_S128x544_S32x544_0_0))
      (extractStridedSlice S32x1x1 ![0, 0, 0] (qlOf m c) slices_S128x1x1_S32x1x1_0_0_0)
      (extractStridedSlice S32x1x1 ![0, 0, 0] (dlOf m c) slices_S128x1x1_S32x1x1_0_0_0)
      (wOf m c) (bOf m c)

/-- The batched arrays region 0 is entered with, from the arguments. -/
theorem inputs0 (c : Dev nD) :
    V1 m ρ c main_call0_v12 = look (tabOf m c) (extractStridedSlice S32x544 ![0, 0] (ixOf m c) slices_S128x544_S32x544_0_0)
    ∧ V1 m ρ c main_call0_v13 = extractStridedSlice S32x1x1 ![0, 0, 0] (qlOf m c) slices_S128x1x1_S32x1x1_0_0_0
    ∧ V1 m ρ c main_call0_v14 = extractStridedSlice S32x1x1 ![0, 0, 0] (dlOf m c) slices_S128x1x1_S32x1x1_0_0_0 := by
  obtain ⟨h0, h1, h2⟩ := host0_inputs (W0 m ρ c)
  have ht : W0 m ρ c (Proc.devRef .tc main_arg4) = tabOf m c := W0_args m ρ c main_arg4 (by decide)
  rw [ht] at *
  exact ⟨h0, h1, h2⟩

/-- Region 0 leaves its features in its output array. -/
theorem out0_feat (c : Dev nD) : W2 m ρ c (Proc.devRef .tc main_call0_v15_0) = feat0 m c := by
  obtain ⟨h0, h1, h2⟩ := inputs0 m ρ c
  refine (W2_arr m ρ c 5).trans ((region0_F (V1 m ρ) c).trans ?_)
  rw [h0, h1, h2]; rfl

/-- Region 0 leaves its scores in its output array. -/
theorem out0_scor (c : Dev nD) : W2 m ρ c (Proc.devRef .tc main_call0_v15_1) = scor0 m c := by
  obtain ⟨h0, h1, h2⟩ := inputs0 m ρ c
  obtain ⟨-, -, -, h3, h4⟩ := shared1 m ρ c
  refine (W2_arr m ρ c 6).trans ((region0_S (V1 m ρ) c).trans ?_)
  rw [h0, h1, h2, show V1 m ρ c main_call0_v3 = wOf m c from h3, show V1 m ρ c main_call0_v4 = bOf m c from h4]; rfl

/-- Region 1's features and scores. -/
def feat1 (c : Dev nD) : Vec F S32x1x21 .f32 :=
  chunkF (look (tabOf m c) (extractStridedSlice S32x544 ![32, 0] (ixOf m c) slices_S128x544_S32x544_32_0))
      (extractStridedSlice S32x1x1 ![32, 0, 0] (qlOf m c) slices_S128x1x1_S32x1x1_32_0_0)
      (extractStridedSlice S32x1x1 ![32, 0, 0] (dlOf m c) slices_S128x1x1_S32x1x1_32_0_0)
def scor1 (c : Dev nD) : Vec F S32x1x1 .f32 :=
  chunkS (look (tabOf m c) (extractStridedSlice S32x544 ![32, 0] (ixOf m c) slices_S128x544_S32x544_32_0))
      (extractStridedSlice S32x1x1 ![32, 0, 0] (qlOf m c) slices_S128x1x1_S32x1x1_32_0_0)
      (extractStridedSlice S32x1x1 ![32, 0, 0] (dlOf m c) slices_S128x1x1_S32x1x1_32_0_0)
      (wOf m c) (bOf m c)

/-- The batched arrays region 1 is entered with, from the arguments. -/
theorem inputs1 (c : Dev nD) :
    V3 m ρ c main_call0_v23 = look (tabOf m c) (extractStridedSlice S32x544 ![32, 0] (ixOf m c) slices_S128x544_S32x544_32_0)
    ∧ V3 m ρ c main_call0_v24 = extractStridedSlice S32x1x1 ![32, 0, 0] (qlOf m c) slices_S128x1x1_S32x1x1_32_0_0
    ∧ V3 m ρ c main_call0_v25 = extractStridedSlice S32x1x1 ![32, 0, 0] (dlOf m c) slices_S128x1x1_S32x1x1_32_0_0 := by
  obtain ⟨h0, h1, h2⟩ := host1_inputs (W2 m ρ c)
  obtain ⟨s0, s1, s2, -, -⟩ := shared2 m ρ c
  have ht : W2 m ρ c (Proc.devRef .tc main_arg4) = tabOf m c := W2_args m ρ c main_arg4 (by decide)
  rw [s0, s1, s2, ht] at *
  exact ⟨h0, h1, h2⟩

/-- Region 1 leaves its features in its output array. -/
theorem out1_feat (c : Dev nD) : W4 m ρ c (Proc.devRef .tc main_call0_v26_0) = feat1 m c := by
  obtain ⟨h0, h1, h2⟩ := inputs1 m ρ c
  refine (W4_arr m ρ c 5).trans ((region1_F (V3 m ρ) c).trans ?_)
  rw [h0, h1, h2]; rfl

/-- Region 1 leaves its scores in its output array. -/
theorem out1_scor (c : Dev nD) : W4 m ρ c (Proc.devRef .tc main_call0_v26_1) = scor1 m c := by
  obtain ⟨h0, h1, h2⟩ := inputs1 m ρ c
  obtain ⟨-, -, -, h3, h4⟩ := shared3 m ρ c
  refine (W4_arr m ρ c 6).trans ((region1_S (V3 m ρ) c).trans ?_)
  rw [h0, h1, h2, show V3 m ρ c main_call0_v3 = wOf m c from h3, show V3 m ρ c main_call0_v4 = bOf m c from h4]; rfl

/-- Region 2's features and scores. -/
def feat2 (c : Dev nD) : Vec F S32x1x21 .f32 :=
  chunkF (look (tabOf m c) (extractStridedSlice S32x544 ![64, 0] (ixOf m c) slices_S128x544_S32x544_64_0))
      (extractStridedSlice S32x1x1 ![64, 0, 0] (qlOf m c) slices_S128x1x1_S32x1x1_64_0_0)
      (extractStridedSlice S32x1x1 ![64, 0, 0] (dlOf m c) slices_S128x1x1_S32x1x1_64_0_0)
def scor2 (c : Dev nD) : Vec F S32x1x1 .f32 :=
  chunkS (look (tabOf m c) (extractStridedSlice S32x544 ![64, 0] (ixOf m c) slices_S128x544_S32x544_64_0))
      (extractStridedSlice S32x1x1 ![64, 0, 0] (qlOf m c) slices_S128x1x1_S32x1x1_64_0_0)
      (extractStridedSlice S32x1x1 ![64, 0, 0] (dlOf m c) slices_S128x1x1_S32x1x1_64_0_0)
      (wOf m c) (bOf m c)

/-- The batched arrays region 2 is entered with, from the arguments. -/
theorem inputs2 (c : Dev nD) :
    V5 m ρ c main_call0_v34 = look (tabOf m c) (extractStridedSlice S32x544 ![64, 0] (ixOf m c) slices_S128x544_S32x544_64_0)
    ∧ V5 m ρ c main_call0_v35 = extractStridedSlice S32x1x1 ![64, 0, 0] (qlOf m c) slices_S128x1x1_S32x1x1_64_0_0
    ∧ V5 m ρ c main_call0_v36 = extractStridedSlice S32x1x1 ![64, 0, 0] (dlOf m c) slices_S128x1x1_S32x1x1_64_0_0 := by
  obtain ⟨h0, h1, h2⟩ := host2_inputs (W4 m ρ c)
  obtain ⟨s0, s1, s2, -, -⟩ := shared4 m ρ c
  have ht : W4 m ρ c (Proc.devRef .tc main_arg4) = tabOf m c := W4_args m ρ c main_arg4 (by decide)
  rw [s0, s1, s2, ht] at *
  exact ⟨h0, h1, h2⟩

/-- Region 2 leaves its features in its output array. -/
theorem out2_feat (c : Dev nD) : W6 m ρ c (Proc.devRef .tc main_call0_v37_0) = feat2 m c := by
  obtain ⟨h0, h1, h2⟩ := inputs2 m ρ c
  refine (W6_arr m ρ c 5).trans ((region2_F (V5 m ρ) c).trans ?_)
  rw [h0, h1, h2]; rfl

/-- Region 2 leaves its scores in its output array. -/
theorem out2_scor (c : Dev nD) : W6 m ρ c (Proc.devRef .tc main_call0_v37_1) = scor2 m c := by
  obtain ⟨h0, h1, h2⟩ := inputs2 m ρ c
  obtain ⟨-, -, -, h3, h4⟩ := shared5 m ρ c
  refine (W6_arr m ρ c 6).trans ((region2_S (V5 m ρ) c).trans ?_)
  rw [h0, h1, h2, show V5 m ρ c main_call0_v3 = wOf m c from h3, show V5 m ρ c main_call0_v4 = bOf m c from h4]; rfl

/-- Region 3's features and scores. -/
def feat3 (c : Dev nD) : Vec F S32x1x21 .f32 :=
  chunkF (look (tabOf m c) (extractStridedSlice S32x544 ![96, 0] (ixOf m c) slices_S128x544_S32x544_96_0))
      (extractStridedSlice S32x1x1 ![96, 0, 0] (qlOf m c) slices_S128x1x1_S32x1x1_96_0_0)
      (extractStridedSlice S32x1x1 ![96, 0, 0] (dlOf m c) slices_S128x1x1_S32x1x1_96_0_0)
def scor3 (c : Dev nD) : Vec F S32x1x1 .f32 :=
  chunkS (look (tabOf m c) (extractStridedSlice S32x544 ![96, 0] (ixOf m c) slices_S128x544_S32x544_96_0))
      (extractStridedSlice S32x1x1 ![96, 0, 0] (qlOf m c) slices_S128x1x1_S32x1x1_96_0_0)
      (extractStridedSlice S32x1x1 ![96, 0, 0] (dlOf m c) slices_S128x1x1_S32x1x1_96_0_0)
      (wOf m c) (bOf m c)

/-- The batched arrays region 3 is entered with, from the arguments. -/
theorem inputs3 (c : Dev nD) :
    V7 m ρ c main_call0_v45 = look (tabOf m c) (extractStridedSlice S32x544 ![96, 0] (ixOf m c) slices_S128x544_S32x544_96_0)
    ∧ V7 m ρ c main_call0_v46 = extractStridedSlice S32x1x1 ![96, 0, 0] (qlOf m c) slices_S128x1x1_S32x1x1_96_0_0
    ∧ V7 m ρ c main_call0_v47 = extractStridedSlice S32x1x1 ![96, 0, 0] (dlOf m c) slices_S128x1x1_S32x1x1_96_0_0 := by
  obtain ⟨h0, h1, h2⟩ := host3_inputs (W6 m ρ c)
  obtain ⟨s0, s1, s2, -, -⟩ := shared6 m ρ c
  have ht : W6 m ρ c (Proc.devRef .tc main_arg4) = tabOf m c := W6_args m ρ c main_arg4 (by decide)
  rw [s0, s1, s2, ht] at *
  exact ⟨h0, h1, h2⟩

/-- Region 3 leaves its features in its output array. -/
theorem out3_feat (c : Dev nD) : W8 m ρ c (Proc.devRef .tc main_call0_v48_0) = feat3 m c := by
  obtain ⟨h0, h1, h2⟩ := inputs3 m ρ c
  refine (W8_arr m ρ c 5).trans ((region3_F (V7 m ρ) c).trans ?_)
  rw [h0, h1, h2]; rfl

/-- Region 3 leaves its scores in its output array. -/
theorem out3_scor (c : Dev nD) : W8 m ρ c (Proc.devRef .tc main_call0_v48_1) = scor3 m c := by
  obtain ⟨h0, h1, h2⟩ := inputs3 m ρ c
  obtain ⟨-, -, -, h3, h4⟩ := shared7 m ρ c
  refine (W8_arr m ρ c 6).trans ((region3_S (V7 m ρ) c).trans ?_)
  rw [h0, h1, h2, show V7 m ρ c main_call0_v3 = wOf m c from h3, show V7 m ρ c main_call0_v4 = bOf m c from h4]; rfl

/-! ### The results -/

/-- Region 0's features are still there before the last stretch. -/
theorem last0_feat (c : Dev nD) : W8 m ρ c (Proc.devRef .tc main_call0_v15_0) = feat0 m c :=
  (W8_of m ρ c main_call0_v15_0 (by decide +kernel)).trans ((W7_of m ρ c main_call0_v15_0 (by decide +kernel)).trans ((W6_of m ρ c main_call0_v15_0 (by decide +kernel)).trans ((W5_of m ρ c main_call0_v15_0 (by decide +kernel)).trans ((W4_of m ρ c main_call0_v15_0 (by decide +kernel)).trans ((W3_of m ρ c main_call0_v15_0 (by decide +kernel)).trans (out0_feat m ρ c))))))

/-- Region 0's scores are still there before the last stretch. -/
theorem last0_scor (c : Dev nD) : W8 m ρ c (Proc.devRef .tc main_call0_v15_1) = scor0 m c :=
  (W8_of m ρ c main_call0_v15_1 (by decide +kernel)).trans ((W7_of m ρ c main_call0_v15_1 (by decide +kernel)).trans ((W6_of m ρ c main_call0_v15_1 (by decide +kernel)).trans ((W5_of m ρ c main_call0_v15_1 (by decide +kernel)).trans ((W4_of m ρ c main_call0_v15_1 (by decide +kernel)).trans ((W3_of m ρ c main_call0_v15_1 (by decide +kernel)).trans (out0_scor m ρ c))))))

/-- Region 1's features are still there before the last stretch. -/
theorem last1_feat (c : Dev nD) : W8 m ρ c (Proc.devRef .tc main_call0_v26_0) = feat1 m c :=
  (W8_of m ρ c main_call0_v26_0 (by decide +kernel)).trans ((W7_of m ρ c main_call0_v26_0 (by decide +kernel)).trans ((W6_of m ρ c main_call0_v26_0 (by decide +kernel)).trans ((W5_of m ρ c main_call0_v26_0 (by decide +kernel)).trans (out1_feat m ρ c))))

/-- Region 1's scores are still there before the last stretch. -/
theorem last1_scor (c : Dev nD) : W8 m ρ c (Proc.devRef .tc main_call0_v26_1) = scor1 m c :=
  (W8_of m ρ c main_call0_v26_1 (by decide +kernel)).trans ((W7_of m ρ c main_call0_v26_1 (by decide +kernel)).trans ((W6_of m ρ c main_call0_v26_1 (by decide +kernel)).trans ((W5_of m ρ c main_call0_v26_1 (by decide +kernel)).trans (out1_scor m ρ c))))

/-- Region 2's features are still there before the last stretch. -/
theorem last2_feat (c : Dev nD) : W8 m ρ c (Proc.devRef .tc main_call0_v37_0) = feat2 m c :=
  (W8_of m ρ c main_call0_v37_0 (by decide +kernel)).trans ((W7_of m ρ c main_call0_v37_0 (by decide +kernel)).trans (out2_feat m ρ c))

/-- Region 2's scores are still there before the last stretch. -/
theorem last2_scor (c : Dev nD) : W8 m ρ c (Proc.devRef .tc main_call0_v37_1) = scor2 m c :=
  (W8_of m ρ c main_call0_v37_1 (by decide +kernel)).trans ((W7_of m ρ c main_call0_v37_1 (by decide +kernel)).trans (out2_scor m ρ c))

/-- Region 3's features are still there before the last stretch. -/
theorem last3_feat (c : Dev nD) : W8 m ρ c (Proc.devRef .tc main_call0_v48_0) = feat3 m c :=
  out3_feat m ρ c

/-- Region 3's scores are still there before the last stretch. -/
theorem last3_scor (c : Dev nD) : W8 m ρ c (Proc.devRef .tc main_call0_v48_1) = scor3 m c :=
  out3_scor m ρ c

/-- All batch entries' scores. -/
def allScores (c : Dev nD) : Vec F S128 .f32 :=
  shapeCast S128 (concatenate S128x1x1 0 [⟨S32x1x1, scor0 m c⟩, ⟨S32x1x1, scor1 m c⟩, ⟨S32x1x1, scor2 m c⟩, ⟨S32x1x1, scor3 m c⟩] concatenates_S32x1x1_S32x1x1_S32x1x1_S32x1x1_S128x1x1_d0) shapeCasts_S128x1x1_S128

/-- All batch entries' features. -/
def allFeats (c : Dev nD) : Vec F S128x21 .f32 :=
  shapeCast S128x21 (concatenate S128x1x21 0 [⟨S32x1x21, feat0 m c⟩, ⟨S32x1x21, feat1 m c⟩, ⟨S32x1x21, feat2 m c⟩, ⟨S32x1x21, feat3 m c⟩] concatenates_S32x1x21_S32x1x21_S32x1x21_S32x1x21_S128x1x21_d0) shapeCasts_S128x1x21_S128x21

/-- The first result ends as all batch entries' scores. -/
theorem result_scores (c : Dev nD) : W9 m ρ c (Proc.devRef .tc main_v0_0) = allScores m c := by
  refine (host4_results (W8 m ρ c)).1.trans ?_
  rw [last0_scor, last1_scor, last2_scor, last3_scor]; rfl

/-- The second result ends as all batch entries' features. -/
theorem result_feats (c : Dev nD) : W9 m ρ c (Proc.devRef .tc main_v0_1) = allFeats m c := by
  refine (host4_results (W8 m ρ c)).2.trans ?_
  rw [last0_feat, last1_feat, last2_feat, last3_feat]; rfl

end Cert.KernelIdeal.Value

end
-- ==== Proof.Spec.lean ====
/- The mathematics of the problem over the extended reals, for one batch entry: rows scaled to unit length, their
   similarities, the 21 pooled sums, the features and the score; and the facts by which the kernel's way of writing each
   step (a reciprocal square root, a masked similarity, one multiplied width) comes to the reference's. -/
module

public import Idealize.ShloMosaic.PureOps.Ideal.Laws
public import Idealize.ShloMosaic.Lib.Pointwise
public import Idealize.ShloMosaic.Lib.IdealHost

@[expose] public section

noncomputable section

namespace Cert.Knrm

open Idealize.ShloMosaic

/-- The least length a row is divided by. -/
abbrev eps : EReal := Ideal.ofBits .f32 0x2B8CBCCC#32

/-- Its square. -/
abbrev epsSq : EReal := ((5316911940649 / 5316911983139663491615228241121378304 : ℝ) : EReal)

/-- The patterns of the kernels' centres. -/
def muWord : Fin 21 → BitVec 32 := fun
  | 0 => 0x3F800000#32 | 1 => 0x3F733333#32 | 2 => 0x3F59999A#32 | 3 => 0x3F400000#32 | 4 => 0x3F266666#32
  | 5 => 0x3F0CCCCD#32 | 6 => 0x3EE66666#32 | 7 => 0x3EB33333#32 | 8 => 0x3E800000#32 | 9 => 0x3E19999A#32
  | 10 => 0x3D4CCCCD#32 | 11 => 0xBD4CCCCD#32 | 12 => 0xBE19999A#32 | 13 => 0xBE800000#32 | 14 => 0xBEB33333#32
  | 15 => 0xBEE66666#32 | 16 => 0xBF0CCCCD#32 | 17 => 0xBF266666#32 | 18 => 0xBF400000#32 | 19 => 0xBF59999A#32
  | 20 => 0xBF733333#32
  | _ => 0#32

/-- The patterns of the factors the kernel multiplies a squared distance by. -/
def fWord : Fin 21 → BitVec 32 := fun k => if k = 0 then 0xC8F42400#32 else 0xC2480000#32

/-- The kernels' centres. -/
def mu (k : Fin 21) : EReal := Ideal.ofBits .f32 (muWord k)

/-- The kernels' widths: a thousandth for the first, a tenth for the others, each as a quotient. -/
def sigma (k : Fin 21) : EReal :=
  Ideal.div 1 (Scalar.select (IntOp.cmpi .eq (BitVec.ofNat 32 k.val) 0#32) (Ideal.ofBits .f32 0x447A0000#32)
    (Ideal.ofBits .f32 0x41200000#32))

/-- Whether position `j` lies before the length `n`. -/
abbrev live (n : BitVec 32) (j : ℕ) : BitVec 1 := IntOp.cmpi .slt (BitVec.ofNat 32 j) n

/-- The same as a number, one or zero. -/
abbrev mask (n : BitVec 32) (j : ℕ) : EReal := FloatOps.uitofp (F := Ideal) FTy.f32 (live n j)

/-- A row's squared length. -/
def sq (x : Fin 300 → EReal) : EReal := ∑ e, x e * x e

/-- A row over its length. -/
def unit (x : Fin 300 → EReal) (e : Fin 300) : EReal := Ideal.div (x e) (max (Ideal.sqrt (sq x)) eps)

/-- Two rows' similarity. -/
def sim (x y : Fin 300 → EReal) : EReal := ∑ e, unit x e * unit y e

/-- Kernel `k` at a similarity. -/
def bell (k : Fin 21) (s : EReal) : EReal :=
  Ideal.exp (Ideal.div (-((s - mu k) * (s - mu k))) (Ideal.ofBits .f32 0x40000000#32 * sigma k * sigma k))

/-- Feature `k` of a query with rows `q` and length `ql` against a document with rows `d` and length `dl`. -/
def feature (q : Fin 32 → Fin 300 → EReal) (d : Fin 512 → Fin 300 → EReal) (ql dl : BitVec 32) (k : Fin 21) : EReal :=
  ∑ i, Ideal.log (max (Ideal.ofBits .f32 0x2EDBE6FF#32) (∑ j, bell k (sim (q i) (d j)) * mask dl j)) * mask ql i
    * Ideal.ofBits .f32 0x3C23D70A#32

/-- The score of the features `f`. -/
def score (f w : Fin 21 → EReal) (b : EReal) : EReal := (∑ k, f k * w k) + b

/-! ### Values of the constants -/

/-- The f32 nearest 1e-12, as a quotient. -/
theorem eps_val : eps = ((2305843 / 2305843009213693952 : ℝ) : EReal) := by
  simp [eps, Ideal.ofBits, Ideal.ieee, -EReal.coe_mul]; norm_num

/-- The literal 2. -/
theorem two_val : Ideal.ofBits .f32 0x40000000#32 = ((2 : ℝ) : EReal) := by
  simp [Ideal.ofBits, Ideal.ieee, -EReal.coe_mul]; norm_num

/-- The literal 10. -/
theorem ten_val : Ideal.ofBits .f32 0x41200000#32 = ((10 : ℝ) : EReal) := by
  simp [Ideal.ofBits, Ideal.ieee, -EReal.coe_mul]; norm_num

/-- The literal 1000. -/
theorem thousand_val : Ideal.ofBits .f32 0x447A0000#32 = ((1000 : ℝ) : EReal) := by
  simp [Ideal.ofBits, Ideal.ieee, -EReal.coe_mul]; norm_num

/-- The kernel's factor of the exact-match Gaussian. -/
theorem sharp_val : Ideal.ofBits .f32 0xC8F42400#32 = ((-500000 : ℝ) : EReal) := by
  simp [Ideal.ofBits, Ideal.ieee, -EReal.coe_mul]; norm_num

/-- The kernel's factor of the other Gaussians. -/
theorem wide_val : Ideal.ofBits .f32 0xC2480000#32 = ((-50 : ℝ) : EReal) := by
  simp [Ideal.ofBits, Ideal.ieee, -EReal.coe_mul]; norm_num

/-! ### The unit row -/

/-- The reciprocal square root of a positive real. -/
theorem rsqrt_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- The square root of a real that is not negative, and of one that is. -/
theorem sqrt_real (r : ℝ) : Ideal.sqrt (r : EReal) = if r < 0 then (⊥ : EReal) else ((Real.sqrt r : ℝ) : EReal) := rfl

/-- The larger of two reals, as an extended real. -/
theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The reciprocal square root of a squared length held at the square of `e` from below is the reciprocal of the length
    held at `e`: at every extended real, a negative one and the infinities included. -/
theorem rsqrt_max_sq {e : ℝ} (he : 0 < e) (s : EReal) :
    Ideal.rsqrt (max s ((e * e : ℝ) : EReal)) = (max (Ideal.sqrt s) (e : EReal))⁻¹ := by
  have hee : 0 < e * e := mul_pos he he
  have hs : Real.sqrt (e * e) = e := Real.sqrt_mul_self he.le
  have key : Ideal.rsqrt ((e * e : ℝ) : EReal) = ((e : ℝ) : EReal)⁻¹ := by rw [rsqrt_pos hee, hs, EReal.coe_inv]
  induction s with
  | bot =>
    rw [max_eq_right bot_le, key, show Ideal.sqrt (⊥ : EReal) = ⊥ from rfl, max_eq_right bot_le]
  | top =>
    rw [max_eq_left le_top, show Ideal.rsqrt (⊤ : EReal) = 0 from rfl, show Ideal.sqrt (⊤ : EReal) = ⊤ from rfl,
      max_eq_left le_top, EReal.inv_top]
  | coe r =>
    rw [max_real, sqrt_real]
    have hp : 0 < max r (e * e) := lt_max_of_lt_right hee
    by_cases hr : r < 0
    · rw [max_eq_right (hr.le.trans hee.le), key, if_pos hr, max_eq_right bot_le]
    · have h4 : Real.sqrt (max r (e * e)) = max (Real.sqrt r) e := by
        rcases le_total r (e * e) with h | h
        · rw [max_eq_right h, hs, max_eq_right (by rw [← hs]; exact Real.sqrt_le_sqrt h)]
        · rw [max_eq_left h, max_eq_left (by rw [← hs]; exact Real.sqrt_le_sqrt h)]
      rw [rsqrt_pos hp, h4, if_neg hr, max_real, EReal.coe_inv]

/-- A row times the reciprocal square root is the row over its length. -/
theorem mul_rsqrt (x : Fin 300 → EReal) (e : Fin 300) : x e * Ideal.rsqrt (max (sq x) epsSq) = unit x e := by
  have hE : epsSq = (((2305843 / 2305843009213693952 : ℝ) * (2305843 / 2305843009213693952 : ℝ) : ℝ) : EReal) := by
    unfold epsSq; norm_num
  have hpos : (0 : EReal) < max (Ideal.sqrt (sq x)) eps := by
    rw [eps_val]; exact lt_max_of_lt_right (by exact_mod_cast (by norm_num : (0:ℝ) < 2305843 / 2305843009213693952))
  rw [hE, rsqrt_max_sq (by norm_num), unit, Ideal.div, if_neg hpos.ne', eps_val]

/-! ### The kernels at a masked similarity -/

/-- Twice the squared width of the exact-match Gaussian. -/
theorem sigma_zero : Ideal.ofBits .f32 0x40000000#32 * sigma 0 * sigma 0 = ((1 / 500000 : ℝ) : EReal) := by
  have h : sigma 0 = ((1 / 1000 : ℝ) : EReal) := by
    show Ideal.div 1 (Ideal.ofBits .f32 0x447A0000#32) = _
    rw [thousand_val, Ideal.div, if_neg (by norm_num), one_mul, ← EReal.coe_inv]; norm_num
  rw [h, two_val, ← EReal.coe_mul, ← EReal.coe_mul]; norm_num

/-- Twice the squared width of each other Gaussian. -/
theorem sigma_succ (k : Fin 21) (hk : k ≠ 0) :
    Ideal.ofBits .f32 0x40000000#32 * sigma k * sigma k = ((1 / 50 : ℝ) : EReal) := by
  have h : sigma k = ((1 / 10 : ℝ) : EReal) := by
    have : IntOp.cmpi .eq (BitVec.ofNat 32 k.val) 0#32 = 0#1 := by revert k; decide
    show Ideal.div 1 (Scalar.select (IntOp.cmpi .eq (BitVec.ofNat 32 k.val) 0#32) _ _) = _
    rw [this]
    show Ideal.div 1 (Ideal.ofBits .f32 0x41200000#32) = _
    rw [ten_val, Ideal.div, if_neg (by norm_num), one_mul, ← EReal.coe_inv]; norm_num
  rw [h, two_val, ← EReal.coe_mul, ← EReal.coe_mul]; norm_num

/-- A number over `1 / c` with its sign changed is the number times `-c`. -/
theorem div_neg_recip {c : ℝ} (hc : 0 < c) (x : EReal) : Ideal.div (-x) ((1 / c : ℝ) : EReal) = x * ((-c : ℝ) : EReal) := by
  have : ((1 / c : ℝ) : EReal) ≠ 0 := by simpa using hc.ne'
  rw [Ideal.div, if_neg this, ← EReal.coe_inv, one_div, inv_inv, EReal.neg_mul, EReal.coe_neg, mul_neg]

/-- The kernel's exponent is the reference's. -/
theorem exponent (k : Fin 21) (x : EReal) :
    x * Ideal.ofBits .f32 (fWord k) = Ideal.div (-x) (Ideal.ofBits .f32 0x40000000#32 * sigma k * sigma k) := by
  by_cases hk : k = 0
  · subst hk; rw [sigma_zero, div_neg_recip (by norm_num)]; show x * Ideal.ofBits .f32 0xC8F42400#32 = _; rw [sharp_val]
  · rw [sigma_succ k hk, div_neg_recip (by norm_num), fWord, if_neg hk, wide_val]

/-- A bit is zero or one. -/
theorem bit_cases (b : BitVec 1) : b = 0#1 ∨ b = 1#1 := by revert b; decide

/-- At a similarity put to minus infinity past the document's end, the kernel's value is the reference's times its mask. -/
theorem bell_masked (k : Fin 21) (s : EReal) (b : BitVec 1) :
    Ideal.exp ((Scalar.select b s ⊥ - mu k) * (Scalar.select b s ⊥ - mu k) * Ideal.ofBits .f32 (fWord k))
      = bell k s * FloatOps.uitofp (F := Ideal) FTy.f32 b := by
  rcases bit_cases b with rfl | rfl
  · have h0 : FloatOps.uitofp (F := Ideal) FTy.f32 0#1 = (0 : EReal) := by simp [FloatOps.uitofp]
    have hs : Scalar.select (0#1) s (⊥ : EReal) = ⊥ := rfl
    have hd : (⊥ : EReal) - mu k = ⊥ := by rw [sub_eq_add_neg, EReal.bot_add]
    have hf : (⊤ : EReal) * Ideal.ofBits .f32 (fWord k) = ⊥ := by
      unfold fWord; split
      · rw [sharp_val]; exact EReal.top_mul_coe_of_neg (by norm_num)
      · rw [wide_val]; exact EReal.top_mul_coe_of_neg (by norm_num)
    rw [h0, mul_zero, hs, hd, EReal.bot_mul_bot, hf]; rfl
  · have h1 : FloatOps.uitofp (F := Ideal) FTy.f32 1#1 = (1 : EReal) := by simp [FloatOps.uitofp]
    have hs : Scalar.select (1#1) s (⊥ : EReal) = s := rfl
    rw [h1, mul_one, hs, exponent]; rfl

/-- The kernel's feature, a sum of selected logarithms of masked pooled sums, is the reference's. -/
theorem feature_eq (q : Fin 32 → Fin 300 → EReal) (d : Fin 512 → Fin 300 → EReal) (ql dl : BitVec 32) (k : Fin 21) :
    (∑ i : Fin 32, Scalar.select (live ql i)
      (Ideal.log (max (∑ j : Fin 512, Ideal.exp ((Scalar.select (live dl j) (sim (q i) (d j)) ⊥ - mu k)
        * (Scalar.select (live dl j) (sim (q i) (d j)) ⊥ - mu k) * Ideal.ofBits .f32 (fWord k)))
        (Ideal.ofBits .f32 0x2EDBE6FF#32)) * Ideal.ofBits .f32 0x3C23D70A#32) (0 : EReal)) = feature q d ql dl k := by
  refine Finset.sum_congr rfl fun i _ => ?_
  rw [Finset.sum_congr rfl fun j _ => bell_masked k (sim (q i) (d j)) (live dl j), max_comm]
  unfold mask
  rcases bit_cases (live ql i) with h | h <;> rw [h]
  · have h0 : FloatOps.uitofp (F := Ideal) FTy.f32 0#1 = (0 : EReal) := by simp [FloatOps.uitofp]
    rw [h0, mul_zero, zero_mul]; rfl
  · have h1 : FloatOps.uitofp (F := Ideal) FTy.f32 1#1 = (1 : EReal) := by simp [FloatOps.uitofp]
    rw [h1, mul_one]; rfl

/-! ### Rows of the table -/

/-- The table row an index names: from the end if negative, then held inside the table. -/
def rowNum (n : BitVec 32) : Fin 50000 :=
  ⟨min (Scalar.select (IntOp.cmpi .slt n 0#32) (IntOp.addi n 50000#32) n).toInt.toNat 49999, by omega⟩

end Cert.Knrm

end
-- ==== Proof.Feat.lean ====
/- The features and the score of one grid point over the extended reals: the printed terms read at an index are the
   mathematics of the problem. -/
module

public import proofs.«01_k».proof.Proof.Block
public import proofs.«01_k».proof.Proof.Spec
public import Idealize.ShloMosaic.Lib.Pointwise

@[expose] public section

set_option maxRecDepth 16384

noncomputable section

namespace Cert.KernelIdeal.Value

open Idealize.ShloMosaic Idealize.SL.Sem Cert.KernelIdeal Cert.KernelIdeal.Gen Cert.Knrm

section terms

variable {F : FTy → Type} [FloatOps F] [Named F]

/-- One kernel's pooled sums: centre `μ`, factor `f`. -/
def pool (μ f : BitVec 32) (s : FVec F S32x512 .f32) : FVec F S32x1 .f32 :=
  shapeCast S32x1 (multiReduction .add [1] S32 (exp (mulf (mulf (subf s (broadcast S32x512 (Scalar.ofBits .f32 μ)))
    (subf s (broadcast S32x512 (Scalar.ofBits .f32 μ)))) (broadcast S32x512 (Scalar.ofBits .f32 f))))
    0x00000000#32 reduces_S32x512_S32 (.inl rfl) rfl) shapeCasts_S32_S32x1

/-- All kernels' pooled sums, side by side. -/
def pools (s : FVec F S32x512 .f32) : FVec F S32x21 .f32 :=
  concatenate S32x21 1 [⟨S32x1, pool (muWord 0) (fWord 0) s⟩, ⟨S32x1, pool (muWord 1) (fWord 1) s⟩, ⟨S32x1, pool (muWord 2) (fWord 2) s⟩, ⟨S32x1, pool (muWord 3) (fWord 3) s⟩, ⟨S32x1, pool (muWord 4) (fWord 4) s⟩, ⟨S32x1, pool (muWord 5) (fWord 5) s⟩, ⟨S32x1, pool (muWord 6) (fWord 6) s⟩, ⟨S32x1, pool (muWord 7) (fWord 7) s⟩, ⟨S32x1, pool (muWord 8) (fWord 8) s⟩, ⟨S32x1, pool (muWord 9) (fWord 9) s⟩, ⟨S32x1, pool (muWord 10) (fWord 10) s⟩, ⟨S32x1, pool (muWord 11) (fWord 11) s⟩, ⟨S32x1, pool (muWord 12) (fWord 12) s⟩, ⟨S32x1, pool (muWord 13) (fWord 13) s⟩, ⟨S32x1, pool (muWord 14) (fWord 14) s⟩, ⟨S32x1, pool (muWord 15) (fWord 15) s⟩, ⟨S32x1, pool (muWord 16) (fWord 16) s⟩, ⟨S32x1, pool (muWord 17) (fWord 17) s⟩, ⟨S32x1, pool (muWord 18) (fWord 18) s⟩, ⟨S32x1, pool (muWord 19) (fWord 19) s⟩, ⟨S32x1, pool (muWord 20) (fWord 20) s⟩] concatenates_S32x1_S32x1_S32x1_S32x1_S32x1_S32x1_S32x1_S32x1_S32x1_S32x1_S32x1_S32x1_S32x1_S32x1_S32x1_S32x1_S32x1_S32x1_S32x1_S32x1_S32x1_S32x21_d1

/-- The features from the pooled sums. -/
def lps (p : FVec F S32x21 .f32) (ql : Elt F .i32) : FVec F S1x21 .f32 :=
  shapeCast S1x21 (multiReduction .add [0] S21
    (select (cmpi .slt (iota .tc S32x21 32 [0] iota_S32x21_d0_w32) (broadcast S32x21 ql))
      (mulf (log (maximumf p (broadcast S32x21 (Scalar.ofBits .f32 0x2EDBE6FF#32)))) (broadcast S32x21 (Scalar.ofBits .f32 0x3C23D70A#32)))
      (broadcast S32x21 (Scalar.ofBits .f32 0x00000000#32)))
    0x00000000#32 reduces_S32x21_S21 (.inl rfl) rfl) shapeCasts_S21_S1x21

/-- The printed features are the pooled ones. -/
theorem feats_eq (q : Vec F S1x32x300 .f32) (d : Vec F S1x512x300 .f32) (dl ql : Elt F .i32) :
    feats q d dl ql = lps (pools (k0_pay3 q d dl)) ql := rfl

end terms

/-! ### At an index -/

/-- One kernel's pooled sum for query row `i`. -/
theorem pool_apply (μ f : BitVec 32) (s : FVec Ideal S32x512 .f32) (i : Fin 32) :
    pool μ f s (ix2 i 0) = ∑ j : Fin 512, Ideal.exp ((s (ix2 i j) - Ideal.ofBits .f32 μ) * (s (ix2 i j) - Ideal.ofBits .f32 μ)
      * Ideal.ofBits .f32 f) := by
  pointwise [pool]

/-- Column `k` of 21 columns side by side. -/
theorem columns_apply (p : Fin 21 → FVec Ideal S32x1 .f32) (i : Fin 32) (k : Fin 21) :
    concatenate S32x21 1 [⟨S32x1, p 0⟩, ⟨S32x1, p 1⟩, ⟨S32x1, p 2⟩, ⟨S32x1, p 3⟩, ⟨S32x1, p 4⟩, ⟨S32x1, p 5⟩, ⟨S32x1, p 6⟩, ⟨S32x1, p 7⟩, ⟨S32x1, p 8⟩, ⟨S32x1, p 9⟩, ⟨S32x1, p 10⟩, ⟨S32x1, p 11⟩, ⟨S32x1, p 12⟩, ⟨S32x1, p 13⟩, ⟨S32x1, p 14⟩, ⟨S32x1, p 15⟩, ⟨S32x1, p 16⟩, ⟨S32x1, p 17⟩, ⟨S32x1, p 18⟩, ⟨S32x1, p 19⟩, ⟨S32x1, p 20⟩] concatenates_S32x1_S32x1_S32x1_S32x1_S32x1_S32x1_S32x1_S32x1_S32x1_S32x1_S32x1_S32x1_S32x1_S32x1_S32x1_S32x1_S32x1_S32x1_S32x1_S32x1_S32x1_S32x21_d1 (ix2 i k)
      = p k (ix2 i 0) := by
  refine concatenate_ofFn_unit_apply (t := S32x21) (s₁ := S32x1) 1 p
    concatenates_S32x1_S32x1_S32x1_S32x1_S32x1_S32x1_S32x1_S32x1_S32x1_S32x1_S32x1_S32x1_S32x1_S32x1_S32x1_S32x1_S32x1_S32x1_S32x1_S32x1_S32x1_S32x21_d1
    rfl rfl (ix2 i k) k rfl (ix2 i 0) fun b hb => ?_
  match b with
  | ⟨0, _⟩ => rfl
  | ⟨1, _⟩ => exact absurd rfl hb

/-- Kernel `k`'s pooled sum for query row `i`. -/
theorem pools_apply (s : FVec Ideal S32x512 .f32) (i : Fin 32) (k : Fin 21) :
    pools s (ix2 i k) = ∑ j : Fin 512, Ideal.exp ((s (ix2 i j) - mu k) * (s (ix2 i j) - mu k) * Ideal.ofBits .f32 (fWord k)) := by
  unfold mu
  rw [← pool_apply]
  exact columns_apply (fun k => pool (muWord k) (fWord k) s) i k

/-- Feature `k` from the pooled sums: their logarithms over the live query rows. -/
theorem lps_apply (p : FVec Ideal S32x21 .f32) (ql : Elt Ideal .i32) (k : Fin 21) :
    lps p ql (ix2 0 k) = ∑ i : Fin 32, Scalar.select (live ql i)
      (Ideal.log (max (p (ix2 i k)) (Ideal.ofBits .f32 0x2EDBE6FF#32)) * Ideal.ofBits .f32 0x3C23D70A#32) (0 : EReal) := by
  pointwise [lps]

/-- The printed similarity of query row `i` and document row `j`, at minus infinity past the document's end. -/
theorem sims_apply (q : Vec Ideal S1x32x300 .f32) (d : Vec Ideal S1x512x300 .f32) (dl : Elt Ideal .i32) (i : Fin 32) (j : Fin 512) :
    k0_pay3 (F := Ideal) q d dl (ix2 i j)
      = Scalar.select (live dl j) (sim (fun e => q (ix3 0 i e)) (fun e => d (ix3 0 j e))) (⊥ : EReal) := by
  pointwise [k0_pay3]
  have hm : Named.named (F := Ideal) κ "mask" (φ := .f32) 3253731328#32 = (⊥ : EReal) := rfl
  have he : Named.named (F := Ideal) κ "eps2" (φ := .f32) 396017173#32 = epsSq := rfl
  rw [hm, he]
  congr 1
  exact Finset.sum_congr rfl fun e _ => congrArg₂ (· * ·) (mul_rsqrt (fun e => q (ix3 0 i e)) e) (mul_rsqrt (fun e => d (ix3 0 j e)) e)

/-- Feature `k` of a grid point. -/
theorem feats_apply (q : Vec Ideal S1x32x300 .f32) (d : Vec Ideal S1x512x300 .f32) (dl ql : Elt Ideal .i32) (k : Fin 21) :
    feats (F := Ideal) q d dl ql (ix2 0 k) = feature (fun i e => q (ix3 0 i e)) (fun j e => d (ix3 0 j e)) ql dl k := by
  rw [feats_eq, lps_apply, ← feature_eq]
  refine Finset.sum_congr rfl fun i _ => ?_
  rw [pools_apply]
  simp only [sims_apply]

/-- Feature `k` of a block. -/
theorem outF_apply (x0 : Vec Ideal S1x544x300 .f32) (x1 x2 : Vec Ideal S1x1x1 .i32) (k : Fin 21) :
    outF (F := Ideal) x0 x1 x2 (ix3 0 0 k)
      = feature (fun i e => x0 (ix3 0 ⟨i.val, by omega⟩ e)) (fun j e => x0 (ix3 0 ⟨32 + j.val, by omega⟩ e))
          (x1 (ix3 0 0 0)) (x2 (ix3 0 0 0)) k := by
  have h : outF (F := Ideal) x0 x1 x2 (ix3 0 0 k) = feats (qrows x0) (drows x0) (word x2) (word x1) (ix2 0 k) := by
    pointwise [outF, k0_pay1]
  rw [h, feats_apply]
  congr 1 <;> funext i e
  · exact congrArg x0 (funext fun a => by
      apply Fin.ext
      match a with
      | ⟨0, _⟩ => rfl
      | ⟨1, _⟩ => show 0 + 1 * i.val = i.val; omega
      | ⟨2, _⟩ => show 0 + 1 * e.val = e.val; omega)
  · exact congrArg x0 (funext fun a => by
      apply Fin.ext
      match a with
      | ⟨0, _⟩ => rfl
      | ⟨1, _⟩ => show 32 + 1 * i.val = 32 + i.val; omega
      | ⟨2, _⟩ => show 0 + 1 * e.val = e.val; omega)

/-- The score of a block. -/
theorem outS_apply (x0 : Vec Ideal S1x544x300 .f32) (x1 x2 : Vec Ideal S1x1x1 .i32) (x3 : Vec Ideal S1x1x21 .f32)
    (x4 : Vec Ideal S1x1x1 .f32) :
    outS (F := Ideal) x0 x1 x2 x3 x4 (ix3 0 0 0)
      = score (fun k => outF (F := Ideal) x0 x1 x2 (ix3 0 0 k)) (fun k => x3 (ix3 0 0 k)) (x4 (ix3 0 0 0)) := by
  have h (k : Fin 21) : outF (F := Ideal) x0 x1 x2 (ix3 0 0 k) = feats (qrows x0) (drows x0) (word x2) (word x1) (ix2 0 k) := by
    pointwise [outF, k0_pay1]
  simp only [h, score]
  generalize hf : feats (qrows x0) (drows x0) (word x2) (word x1) = f
  unfold outS
  rw [hf]
  pointwise [k0_pay2]

end Cert.KernelIdeal.Value

end
-- ==== Proof.Rows.lean ====
/- The host's row lookup read at an index: a table of `N` rows gathered at an array of row numbers. -/
module

public import Idealize.ShloMosaic.Lib.ValueIdxCore
public import Idealize.ShloMosaic.Lib.Pointwise

@[expose] public section

noncomputable section

namespace Cert.Knrm

open Idealize.ShloMosaic

/-- The lookup's dimension numbers, for a table `[N, E]`, row numbers `[R, C, 1]` and the result `[R, C, E]`. -/
abbrev lookup (N R C E : Nat)
    (wf : GatherDims.WF ⟨2, ![N, E]⟩ ⟨3, ![R, C, 1]⟩ ⟨3, ![R, C, E]⟩ [2] [0] [] [0] [] 2 ![1, E]) :
    GatherDims ⟨2, ![N, E]⟩ ⟨3, ![R, C, 1]⟩ ⟨3, ![R, C, E]⟩ where
  offsetDims := [2]
  collapsedSliceDims := [0]
  operandBatchingDims := []
  startIndicesBatchingDims := []
  startIndexMap := [0]
  indexVectorDim := 2
  sliceSizes := ![1, E]
  wf := wf

/-- Entry `(b, i, x)` of a lookup is entry `x` of the row whose number stands at `(b, i)`, held inside the table. -/
theorem lookup_apply {α : Type} {N R C E : Nat} (hN : 0 < N)
    (wf : GatherDims.WF ⟨2, ![N, E]⟩ ⟨3, ![R, C, 1]⟩ ⟨3, ![R, C, E]⟩ [2] [0] [] [0] [] 2 ![1, E])
    (t : (⟨2, ![N, E]⟩ : Shape).Idx → α) (ix : IVec ⟨3, ![R, C, 1]⟩ 32) (b : Fin R) (i : Fin C) (x : Fin E) :
    Host.gather (lookup N R C E wf) t ix (ix3 b i x)
      = t (ix2 ⟨min (ix (ix3 b i 0)).toInt.toNat (N - 1), by omega⟩ x) := by
  unfold Host.gather
  refine congrArg t (funext fun a => Fin.ext ?_)
  show (lookup N R C E wf).start (ix3 b i x) ix a + (lookup N R C E wf).batchCoord (ix3 b i x) a
    + (lookup N R C E wf).offCoord (ix3 b i x) a = _
  rw [GatherDims.batchCoord_eq_zero _ _ _ List.not_mem_nil, Nat.add_zero]
  match a with
  | ⟨0, _⟩ =>
    have hat : (lookup N R C E wf).siIdx (ix3 b i x) ⟨List.idxOf (0 : Fin 2) (lookup N R C E wf).startIndexMap,
        List.idxOf_lt_length_iff.2 (List.mem_singleton.mpr rfl)⟩ = ix3 b i 0 := by
      funext a'; apply Fin.ext
      match a' with
      | ⟨0, _⟩ => rfl
      | ⟨1, _⟩ => rfl
      | ⟨2, _⟩ => rfl
    have hoff : (lookup N R C E wf).offCoord (ix3 b i x) (0 : Fin 2) = 0 :=
      GatherDims.offCoord_eq_zero _ _ _ fun h => ((GatherDims.mem_sKept _ _).mp h).1 (List.mem_singleton.mpr rfl)
    show (lookup N R C E wf).start (ix3 b i x) ix (0 : Fin 2) + (lookup N R C E wf).offCoord (ix3 b i x) (0 : Fin 2) = _
    rw [hoff, Nat.add_zero]
    unfold GatherDims.start
    rw [dif_pos (show (0 : Fin 2) ∈ (lookup N R C E wf).startIndexMap from List.mem_singleton.mpr rfl), hat]
    rfl
  | ⟨1, _⟩ =>
    have hst : (lookup N R C E wf).start (ix3 b i x) ix (1 : Fin 2) = 0 := by
      unfold GatherDims.start
      exact dif_neg (fun h => absurd (congrArg Fin.val (List.mem_singleton.mp h)) Nat.one_ne_zero)
    show (lookup N R C E wf).start (ix3 b i x) ix (1 : Fin 2) + (lookup N R C E wf).offCoord (ix3 b i x) (1 : Fin 2) = _
    rw [hst, Nat.zero_add]
    unfold GatherDims.offCoord
    rw [dif_pos (show (1 : Fin 2) ∈ (lookup N R C E wf).sKept from
      (GatherDims.mem_sKept _ _).mpr ⟨fun h => absurd (congrArg Fin.val (List.mem_singleton.mp h)) Nat.one_ne_zero, List.not_mem_nil⟩)]
    rfl

end Cert.Knrm

end
-- ==== Proof.Kern.lean ====
/- The kernel's two results read at an index: what each region makes of its 32 batch entries, and the four regions joined. -/
module

public import proofs.«01_k».proof.Proof.HostLines
public import proofs.«01_k».proof.Proof.Feat
public import proofs.«01_k».proof.Proof.Rows
public import Idealize.ShloMosaic.Lib.Pipeline.Value
public import Idealize.ShloMosaic.Lib.Pointwise

@[expose] public section

set_option maxRecDepth 16384

noncomputable section

namespace Cert.KernelIdeal.Value

open Idealize.ShloMosaic Idealize.SL.Sem Idealize.SL Idealize.ShloMosaic.TcCoe Cert.KernelIdeal Cert.KernelIdeal.Gen Cert.Knrm

/-- A looked-up row at a coordinate. -/
theorem look_apply (tab : Vec Ideal S50000x300 .f32) (ix : Vec Ideal S32x544 .i32) (t : Fin 32) (y : Fin 544) (e : Fin 300) :
    look tab ix (ix3 t y e) = tab (ix2 (rowNum (ix (ix2 t y))) e) := by
  unfold look
  refine (lookup_apply (by decide) gather_S50000x300_S32x544x1_S32x544x300_2_0_n_n_0_2_1300.wf tab _ t y e).trans ?_
  refine congrArg tab (congrArg (fun r => ix2 r e) (Fin.ext ?_))
  show min (BitVec.toInt _).toNat 49999 = min (BitVec.toInt _).toNat 49999
  pointwise

/-- The first 32 columns of the joined indices are the query's. -/
theorem bothIx_query (q : Vec Ideal S128x32 .i32) (d : Vec Ideal S128x512 .i32) (b : Fin 128) (i : Fin 32) :
    bothIx q d (ix2 b ⟨i.val, by omega⟩) = q (ix2 b i) := by
  pointwise [bothIx]

/-- The other 512 columns are the document's. -/
theorem bothIx_document (q : Vec Ideal S128x32 .i32) (d : Vec Ideal S128x512 .i32) (b : Fin 128) (j : Fin 512) :
    bothIx q d (ix2 b ⟨32 + j.val, by omega⟩) = d (ix2 b j) := by
  pointwise [bothIx]

/-- A length in its column of blocks. -/
theorem lens_apply (n : Vec Ideal S128 .i32) (b : Fin 128) : lens n (ix3 b 0 0) = n (ix1 b) := by
  pointwise [lens]

/-- A weight in its block. -/
theorem wts_apply (w : Vec Ideal S1x21 .f32) (k : Fin 21) : wts w (ix3 0 0 k) = w (ix2 0 k) := by
  pointwise [wts]

/-- The bias in its block. -/
theorem bias_apply (b : Vec Ideal S1 .f32) : bias b (ix3 0 0 0) = b (ix1 0) := by
  pointwise [bias]

section entries

variable (tab : Vec Ideal S50000x300 .f32) (q : Vec Ideal S128x32 .i32) (d : Vec Ideal S128x512 .i32) (ql dl : Vec Ideal S128 .i32)

/-- The features of batch entry `b`, from the arguments. -/
def featAt (b : Fin 128) (k : Fin 21) : EReal :=
  feature (fun i e => tab (ix2 (rowNum (q (ix2 b i))) e)) (fun j e => tab (ix2 (rowNum (d (ix2 b j))) e)) (ql (ix1 b)) (dl (ix1 b)) k

variable {ix : Vec Ideal S32x544 .i32} {nq nd : Vec Ideal S32x1x1 .i32} {t : Fin 32} {b : Fin 128}

/-- A region whose row `t` is batch entry `b` makes that entry's features of it. -/
theorem chunkF_apply (hx : ∀ y, ix (ix2 t y) = bothIx q d (ix2 b y)) (hq : nq (ix3 t 0 0) = lens ql (ix3 b 0 0))
    (hd : nd (ix3 t 0 0) = lens dl (ix3 b 0 0)) (k : Fin 21) :
    chunkF (look tab ix) nq nd (ix3 t 0 k) = featAt tab q d ql dl b k := by
  show outF (F := Ideal) (rowX (look tab ix) t) (rowN nq t) (rowN nd t) (ix3 0 0 k) = _
  rw [outF_apply]
  unfold featAt
  have e1 (i : Fin 32) (e : Fin 300) : rowX (look tab ix) t (ix3 0 ⟨i.val, by omega⟩ e) = tab (ix2 (rowNum (q (ix2 b i))) e) := by
    show look tab ix (ix3 t ⟨i.val, _⟩ e) = _
    rw [look_apply, hx, bothIx_query]
  have e2 (j : Fin 512) (e : Fin 300) : rowX (look tab ix) t (ix3 0 ⟨32 + j.val, by omega⟩ e) = tab (ix2 (rowNum (d (ix2 b j))) e) := by
    show look tab ix (ix3 t ⟨32 + j.val, _⟩ e) = _
    rw [look_apply, hx, bothIx_document]
  have e3 : rowN nq t (ix3 0 0 0) = ql (ix1 b) := hq.trans (lens_apply ql b)
  have e4 : rowN nd t (ix3 0 0 0) = dl (ix1 b) := hd.trans (lens_apply dl b)
  simp only [e1, e2, e3, e4]

/-- The same region's score of it. -/
theorem chunkS_apply (w : Vec Ideal S1x21 .f32) (v : Vec Ideal S1 .f32)
    (hx : ∀ y, ix (ix2 t y) = bothIx q d (ix2 b y)) (hq : nq (ix3 t 0 0) = lens ql (ix3 b 0 0))
    (hd : nd (ix3 t 0 0) = lens dl (ix3 b 0 0)) :
    chunkS (look tab ix) nq nd (wts w) (bias v) (ix3 t 0 0)
      = score (featAt tab q d ql dl b) (fun k => w (ix2 0 k)) (v (ix1 0)) := by
  show outS (F := Ideal) (rowX (look tab ix) t) (rowN nq t) (rowN nd t) (wts w) (bias v) (ix3 0 0 0) = _
  rw [outS_apply, bias_apply]
  have e (k : Fin 21) : outF (F := Ideal) (rowX (look tab ix) t) (rowN nq t) (rowN nd t) (ix3 0 0 k) = featAt tab q d ql dl b k :=
    chunkF_apply tab q d ql dl hx hq hd k
  simp only [e, wts_apply]

end entries

/-- Four arrays of 32 joined and the middle axis dropped: entry `b` is entry `b mod 32` of the one `b / 32` names. -/
theorem join_feats (p : Fin 4 → Vec Ideal S32x1x21 .f32) (b : Fin 128) (k : Fin 21) :
    shapeCast S128x21 (concatenate S128x1x21 0 [⟨S32x1x21, p 0⟩, ⟨S32x1x21, p 1⟩, ⟨S32x1x21, p 2⟩, ⟨S32x1x21, p 3⟩]
        concatenates_S32x1x21_S32x1x21_S32x1x21_S32x1x21_S128x1x21_d0) shapeCasts_S128x1x21_S128x21 (ix2 b k)
      = p ⟨b.val / 32, by omega⟩ (ix3 ⟨b.val % 32, by omega⟩ 0 k) := by
  have h (x : Vec Ideal S128x1x21 .f32) : shapeCast S128x21 x shapeCasts_S128x1x21_S128x21 (ix2 b k) = x (ix3 b 0 k) := by pointwise
  rw [h]
  refine concatenate_ofFn_apply 0 p concatenates_S32x1x21_S32x1x21_S32x1x21_S32x1x21_S128x1x21_d0 rfl 32 rfl
    (ix3 b 0 k) ⟨b.val / 32, by omega⟩ rfl (ix3 ⟨b.val % 32, by omega⟩ 0 k) rfl fun a ha => ?_
  match a with
  | ⟨0, _⟩ => exact absurd rfl ha
  | ⟨1, _⟩ => rfl
  | ⟨2, _⟩ => rfl

/-- The same of the scores. -/
theorem join_scores (p : Fin 4 → Vec Ideal S32x1x1 .f32) (b : Fin 128) :
    shapeCast S128 (concatenate S128x1x1 0 [⟨S32x1x1, p 0⟩, ⟨S32x1x1, p 1⟩, ⟨S32x1x1, p 2⟩, ⟨S32x1x1, p 3⟩]
        concatenates_S32x1x1_S32x1x1_S32x1x1_S32x1x1_S128x1x1_d0) shapeCasts_S128x1x1_S128 (ix1 b)
      = p ⟨b.val / 32, by omega⟩ (ix3 ⟨b.val % 32, by omega⟩ 0 0) := by
  have h (x : Vec Ideal S128x1x1 .f32) : shapeCast S128 x shapeCasts_S128x1x1_S128 (ix1 b) = x (ix3 b 0 0) := by pointwise
  rw [h]
  refine concatenate_ofFn_apply 0 p concatenates_S32x1x1_S32x1x1_S32x1x1_S32x1x1_S128x1x1_d0 rfl 32 rfl
    (ix3 b 0 0) ⟨b.val / 32, by omega⟩ rfl (ix3 ⟨b.val % 32, by omega⟩ 0 0) rfl fun a ha => ?_
  match a with
  | ⟨0, _⟩ => exact absurd rfl ha
  | ⟨1, _⟩ => rfl
  | ⟨2, _⟩ => rfl

variable (m : (ℓ : Loc nD τ sig) → Buf (Elt Ideal) ℓ) (c : Dev nD)

/-- Batch entry `b`'s features on a core. -/
def entry (b : Fin 128) (k : Fin 21) : EReal :=
  featAt (m ((c.tc : Thread nD τ).loc main_arg4)) (m ((c.tc : Thread nD τ).loc main_arg0)) (m ((c.tc : Thread nD τ).loc main_arg1))
    (m ((c.tc : Thread nD τ).loc main_arg2)) (m ((c.tc : Thread nD τ).loc main_arg3)) b k

/-- Its score. -/
def entryScore (b : Fin 128) : EReal :=
  score (entry m c b) (fun k => (m ((c.tc : Thread nD τ).loc main_arg5) : Vec Ideal S1x21 .f32) (ix2 0 k))
    ((m ((c.tc : Thread nD τ).loc main_arg6) : Vec Ideal S1 .f32) (ix1 0))

/-- Row `t` of entries 0 to 31. -/
theorem cut0 (x : Vec Ideal S128x544 .i32) (t : Fin 32) (y : Fin 544) :
    extractStridedSlice S32x544 ![0, 0] x slices_S128x544_S32x544_0_0 (ix2 t y) = x (ix2 ⟨0 + t.val, by omega⟩ y) := by
  refine congrArg x (funext fun a => Fin.ext ?_)
  match a with
  | ⟨0, _⟩ => rfl
  | ⟨1, _⟩ => exact Nat.zero_add y.val

/-- Entry `t` of the lengths cut out for region 0. -/
theorem cutN0 (x : Vec Ideal S128x1x1 .i32) (t : Fin 32) :
    extractStridedSlice S32x1x1 ![0, 0, 0] x slices_S128x1x1_S32x1x1_0_0_0 (ix3 t 0 0) = x (ix3 ⟨0 + t.val, by omega⟩ 0 0) := by
  refine congrArg x (funext fun a => Fin.ext ?_)
  match a with
  | ⟨0, _⟩ => rfl
  | ⟨1, _⟩ => rfl
  | ⟨2, _⟩ => rfl

/-- Row `t` of region 0's features, from the arguments. -/
theorem feat0_apply (t : Fin 32) (k : Fin 21) : feat0 m c (ix3 t 0 k) = entry m c ⟨0 + t.val, by omega⟩ k :=
  chunkF_apply _ _ _ _ _ (fun y => cut0 _ t y) (cutN0 _ t) (cutN0 _ t) k

/-- Row `t` of region 0's scores, from the arguments. -/
theorem scor0_apply (t : Fin 32) : scor0 m c (ix3 t 0 0) = entryScore m c ⟨0 + t.val, by omega⟩ :=
  chunkS_apply _ _ _ _ _ _ _ (fun y => cut0 _ t y) (cutN0 _ t) (cutN0 _ t)

/-- Row `t` of entries 32 to 63. -/
theorem cut1 (x : Vec Ideal S128x544 .i32) (t : Fin 32) (y : Fin 544) :
    extractStridedSlice S32x544 ![32, 0] x slices_S128x544_S32x544_32_0 (ix2 t y) = x (ix2 ⟨32 + t.val, by omega⟩ y) := by
  refine congrArg x (funext fun a => Fin.ext ?_)
  match a with
  | ⟨0, _⟩ => rfl
  | ⟨1, _⟩ => exact Nat.zero_add y.val

/-- Entry `t` of the lengths cut out for region 1. -/
theorem cutN1 (x : Vec Ideal S128x1x1 .i32) (t : Fin 32) :
    extractStridedSlice S32x1x1 ![32, 0, 0] x slices_S128x1x1_S32x1x1_32_0_0 (ix3 t 0 0) = x (ix3 ⟨32 + t.val, by omega⟩ 0 0) := by
  refine congrArg x (funext fun a => Fin.ext ?_)
  match a with
  | ⟨0, _⟩ => rfl
  | ⟨1, _⟩ => rfl
  | ⟨2, _⟩ => rfl

/-- Row `t` of region 1's features, from the arguments. -/
theorem feat1_apply (t : Fin 32) (k : Fin 21) : feat1 m c (ix3 t 0 k) = entry m c ⟨32 + t.val, by omega⟩ k :=
  chunkF_apply _ _ _ _ _ (fun y => cut1 _ t y) (cutN1 _ t) (cutN1 _ t) k

/-- Row `t` of region 1's scores, from the arguments. -/
theorem scor1_apply (t : Fin 32) : scor1 m c (ix3 t 0 0) = entryScore m c ⟨32 + t.val, by omega⟩ :=
  chunkS_apply _ _ _ _ _ _ _ (fun y => cut1 _ t y) (cutN1 _ t) (cutN1 _ t)

/-- Row `t` of entries 64 to 95. -/
theorem cut2 (x : Vec Ideal S128x544 .i32) (t : Fin 32) (y : Fin 544) :
    extractStridedSlice S32x544 ![64, 0] x slices_S128x544_S32x544_64_0 (ix2 t y) = x (ix2 ⟨64 + t.val, by omega⟩ y) := by
  refine congrArg x (funext fun a => Fin.ext ?_)
  match a with
  | ⟨0, _⟩ => rfl
  | ⟨1, _⟩ => exact Nat.zero_add y.val

/-- Entry `t` of the lengths cut out for region 2. -/
theorem cutN2 (x : Vec Ideal S128x1x1 .i32) (t : Fin 32) :
    extractStridedSlice S32x1x1 ![64, 0, 0] x slices_S128x1x1_S32x1x1_64_0_0 (ix3 t 0 0) = x (ix3 ⟨64 + t.val, by omega⟩ 0 0) := by
  refine congrArg x (funext fun a => Fin.ext ?_)
  match a with
  | ⟨0, _⟩ => rfl
  | ⟨1, _⟩ => rfl
  | ⟨2, _⟩ => rfl

/-- Row `t` of region 2's features, from the arguments. -/
theorem feat2_apply (t : Fin 32) (k : Fin 21) : feat2 m c (ix3 t 0 k) = entry m c ⟨64 + t.val, by omega⟩ k :=
  chunkF_apply _ _ _ _ _ (fun y => cut2 _ t y) (cutN2 _ t) (cutN2 _ t) k

/-- Row `t` of region 2's scores, from the arguments. -/
theorem scor2_apply (t : Fin 32) : scor2 m c (ix3 t 0 0) = entryScore m c ⟨64 + t.val, by omega⟩ :=
  chunkS_apply _ _ _ _ _ _ _ (fun y => cut2 _ t y) (cutN2 _ t) (cutN2 _ t)

/-- Row `t` of entries 96 to 127. -/
theorem cut3 (x : Vec Ideal S128x544 .i32) (t : Fin 32) (y : Fin 544) :
    extractStridedSlice S32x544 ![96, 0] x slices_S128x544_S32x544_96_0 (ix2 t y) = x (ix2 ⟨96 + t.val, by omega⟩ y) := by
  refine congrArg x (funext fun a => Fin.ext ?_)
  match a with
  | ⟨0, _⟩ => rfl
  | ⟨1, _⟩ => exact Nat.zero_add y.val

/-- Entry `t` of the lengths cut out for region 3. -/
theorem cutN3 (x : Vec Ideal S128x1x1 .i32) (t : Fin 32) :
    extractStridedSlice S32x1x1 ![96, 0, 0] x slices_S128x1x1_S32x1x1_96_0_0 (ix3 t 0 0) = x (ix3 ⟨96 + t.val, by omega⟩ 0 0) := by
  refine congrArg x (funext fun a => Fin.ext ?_)
  match a with
  | ⟨0, _⟩ => rfl
  | ⟨1, _⟩ => rfl
  | ⟨2, _⟩ => rfl

/-- Row `t` of region 3's features, from the arguments. -/
theorem feat3_apply (t : Fin 32) (k : Fin 21) : feat3 m c (ix3 t 0 k) = entry m c ⟨96 + t.val, by omega⟩ k :=
  chunkF_apply _ _ _ _ _ (fun y => cut3 _ t y) (cutN3 _ t) (cutN3 _ t) k

/-- Row `t` of region 3's scores, from the arguments. -/
theorem scor3_apply (t : Fin 32) : scor3 m c (ix3 t 0 0) = entryScore m c ⟨96 + t.val, by omega⟩ :=
  chunkS_apply _ _ _ _ _ _ _ (fun y => cut3 _ t y) (cutN3 _ t) (cutN3 _ t)

/-- The joined array at batch entry `b`. -/
theorem allFeats_apply (b : Fin 128) (k : Fin 21) : allFeats m c (ix2 b k) = entry m c b k := by
  let p : Fin 4 → _ := ![feat0 m c, feat1 m c, feat2 m c, feat3 m c]
  refine (join_feats p b k).trans ?_
  have hp (n : Fin 4) (t : Fin 32) (h : b.val = 32 * n.val + t.val) : p n (ix3 t 0 k) = entry m c b k := by
    match n with
    | 0 => exact (feat0_apply m c t k).trans (congrArg (fun x => entry m c x k) (Fin.ext (by simp at h ⊢; omega)))
    | 1 => exact (feat1_apply m c t k).trans (congrArg (fun x => entry m c x k) (Fin.ext (by simp at h ⊢; omega)))
    | 2 => exact (feat2_apply m c t k).trans (congrArg (fun x => entry m c x k) (Fin.ext (by simp at h ⊢; omega)))
    | 3 => exact (feat3_apply m c t k).trans (congrArg (fun x => entry m c x k) (Fin.ext (by simp at h ⊢; omega)))
  exact hp _ _ (by simp only; omega)

/-- The joined array at batch entry `b`. -/
theorem allScores_apply (b : Fin 128) : allScores m c (ix1 b) = entryScore m c b := by
  let p : Fin 4 → _ := ![scor0 m c, scor1 m c, scor2 m c, scor3 m c]
  refine (join_scores p b).trans ?_
  have hp (n : Fin 4) (t : Fin 32) (h : b.val = 32 * n.val + t.val) : p n (ix3 t 0 0) = entryScore m c b := by
    match n with
    | 0 => exact (scor0_apply m c t).trans (congrArg (fun x => entryScore m c x) (Fin.ext (by simp at h ⊢; omega)))
    | 1 => exact (scor1_apply m c t).trans (congrArg (fun x => entryScore m c x) (Fin.ext (by simp at h ⊢; omega)))
    | 2 => exact (scor2_apply m c t).trans (congrArg (fun x => entryScore m c x) (Fin.ext (by simp at h ⊢; omega)))
    | 3 => exact (scor3_apply m c t).trans (congrArg (fun x => entryScore m c x) (Fin.ext (by simp at h ⊢; omega)))
  exact hp _ _ (by simp only; omega)

end Cert.KernelIdeal.Value

end
-- ==== Proof.RefRead.lean ====
/- The reference's two results, read at an index: its printed term is cut into the stages of the computation (rows looked
   up, rows scaled to unit length, similarities, pooled sums, features, score), and each stage is read by itself. -/
module

public import proofs.«01_k».proof.Proof.Gen.ReferenceIdeal.Run
public import proofs.«01_k».proof.Proof.Spec
public import proofs.«01_k».proof.Proof.Rows
public import Idealize.ShloMosaic.Lib.Pointwise

@[expose] public section

set_option maxRecDepth 16384

noncomputable section

namespace Cert.ReferenceIdeal.Value

open Idealize.ShloMosaic Idealize.SL.Sem Cert.ReferenceIdeal Cert.ReferenceIdeal.Gen Cert.Knrm

section stages

variable {F : FTy → Type} [FloatOps F]

/-- The table's rows at the query's indices, an index below zero counted from the end. -/
def rowsQ (tab : Vec F S50000x300 .f32) (ix : Vec F S128x32 .i32) : FVec F S128x32x300 .f32 :=
  Host.gather gather_S50000x300_S128x32x1_S128x32x300_2_0_n_n_0_2_1300 tab
    (broadcastInDim S128x32x1 ![0, 1] bcast_S128x32_S128x32x1_0_1
      (select (cmpi .slt ix (broadcastInDim S128x32 ![] bcast_S_S128x32 (constantI S_ 32 0#32)))
        (addi ix (broadcastInDim S128x32 ![] bcast_S_S128x32 (constantI S_ 32 50000#32))) ix))

/-- The same at the document's indices. -/
def rowsD (tab : Vec F S50000x300 .f32) (ix : Vec F S128x512 .i32) : FVec F S128x512x300 .f32 :=
  Host.gather gather_S50000x300_S128x512x1_S128x512x300_2_0_n_n_0_2_1300 tab
    (broadcastInDim S128x512x1 ![0, 1] bcast_S128x512_S128x512x1_0_1
      (select (cmpi .slt ix (broadcastInDim S128x512 ![] bcast_S_S128x512 (constantI S_ 32 0#32)))
        (addi ix (broadcastInDim S128x512 ![] bcast_S_S128x512 (constantI S_ 32 50000#32))) ix))

/-- The query's rows over their lengths. -/
def unitQ (x : FVec F S128x32x300 .f32) : FVec F S128x32x300 .f32 :=
  Host.divf x (broadcastInDim S128x32x300 ![0, 1, 2] bcast_S128x32x1_S128x32x300_0_1_2
    (maximumf (Host.sqrt (broadcastInDim S128x32x1 ![0, 1] bcast_S128x32_S128x32x1_0_1
        (Host.reduceAdd (mulf x x) (constant S_ .f32 0x00000000#32) reducesTo_S128x32x300_S128x32_d2 h_S_)))
      (broadcastInDim S128x32x1 ![] bcast_S_S128x32x1 (constant S_ .f32 0x2B8CBCCC#32))))

/-- The document's rows over their lengths. -/
def unitD (x : FVec F S128x512x300 .f32) : FVec F S128x512x300 .f32 :=
  Host.divf x (broadcastInDim S128x512x300 ![0, 1, 2] bcast_S128x512x1_S128x512x300_0_1_2
    (maximumf (Host.sqrt (broadcastInDim S128x512x1 ![0, 1] bcast_S128x512_S128x512x1_0_1
        (Host.reduceAdd (mulf x x) (constant S_ .f32 0x00000000#32) reducesTo_S128x512x300_S128x512_d2 h_S_)))
      (broadcastInDim S128x512x1 ![] bcast_S_S128x512x1 (constant S_ .f32 0x2B8CBCCC#32))))

/-- The similarities. -/
def sims (q : FVec F S128x32x300 .f32) (d : FVec F S128x512x300 .f32) : FVec F S128x32x512 .f32 :=
  Host.dotGeneral dot_S128x32x300_S128x512x300_S128x32x512_2_2_1_1_0_0 none (unitQ q) (unitD d)

/-- The kernels' centres, along the last axis. -/
def centres : FVec F S128x32x512x21 .f32 :=
  broadcastInDim S128x32x512x21 ![0, 1, 2, 3] bcast_S1x1x1x21_S128x32x512x21_0_1_2_3
    (broadcastInDim S1x1x1x21 ![3] bcast_S21_S1x1x1x21_3 ((fun i => FloatOps.ofBits .f32 (lit0 (S21.rowMajor i)))))

/-- The kernels' widths. -/
def widths : FVec F S21 .f32 :=
  Host.divf (broadcastInDim S21 ![] bcast_S_S21 (constant S_ .f32 0x3F800000#32))
    (select (cmpi .eq (iotaInDim S21 32 0) (broadcastInDim S21 ![] bcast_S_S21 (constantI S_ 32 0#32)))
      (broadcastInDim S21 ![] bcast_S_S21 (constant S_ .f32 0x447A0000#32))
      (broadcastInDim S21 ![] bcast_S_S21 (constant S_ .f32 0x41200000#32)))

/-- The distances of the similarities from the centres. -/
def dists (s : FVec F S128x32x512 .f32) : FVec F S128x32x512x21 .f32 :=
  subf (broadcastInDim S128x32x512x21 ![0, 1, 2, 3] bcast_S128x32x512x1_S128x32x512x21_0_1_2_3
      (broadcastInDim S128x32x512x1 ![0, 1, 2] bcast_S128x32x512_S128x32x512x1_0_1_2 s)) centres

/-- The kernels' values at the similarities, those of the document's padding at zero. -/
def bells (s : FVec F S128x32x512 .f32) (dl : Vec F S128 .i32) : FVec F S128x32x512x21 .f32 :=
  mulf (Host.exp (Host.divf (Host.negf (mulf (dists s) (dists s)))
      (broadcastInDim S128x32x512x21 ![0, 1, 2, 3] bcast_S1x1x1x21_S128x32x512x21_0_1_2_3
        (broadcastInDim S1x1x1x21 ![3] bcast_S21_S1x1x1x21_3
          (mulf (mulf (broadcastInDim S21 ![] bcast_S_S21 (constant S_ .f32 0x40000000#32)) widths) widths)))))
    (broadcastInDim S128x32x512x21 ![0, 1, 2, 3] bcast_S128x1x512x1_S128x32x512x21_0_1_2_3
      (broadcastInDim S128x1x512x1 ![0, 2] bcast_S128x512_S128x1x512x1_0_2
        (uitofp .f32 (cmpi .slt
          (broadcastInDim S128x512 ![0, 1] bcast_S1x512_S128x512_0_1
            (broadcastInDim S1x512 ![1] bcast_S512_S1x512_1 (iotaInDim S512 32 0)))
          (broadcastInDim S128x512 ![0, 1] bcast_S128x1_S128x512_0_1 (broadcastInDim S128x1 ![0] bcast_S128_S128x1_0 dl))))))

/-- The features from the pooled sums. -/
def lps (p : FVec F S128x32x21 .f32) (ql : Vec F S128 .i32) : FVec F S128x21 .f32 :=
  Host.reduceAdd (mulf (mulf (Host.log (maximumf (broadcastInDim S128x32x21 ![] bcast_S_S128x32x21
          (id (constant S_ .f32 0x2EDBE6FF#32))) p))
        (broadcastInDim S128x32x21 ![0, 1, 2] bcast_S128x32x1_S128x32x21_0_1_2
          (broadcastInDim S128x32x1 ![0, 1] bcast_S128x32_S128x32x1_0_1
            (uitofp .f32 (cmpi .slt
              (broadcastInDim S128x32 ![0, 1] bcast_S1x32_S128x32_0_1
                (broadcastInDim S1x32 ![1] bcast_S32_S1x32_1 (iotaInDim S32 32 0)))
              (broadcastInDim S128x32 ![0, 1] bcast_S128x1_S128x32_0_1 (broadcastInDim S128x1 ![0] bcast_S128_S128x1_0 ql)))))))
      (broadcastInDim S128x32x21 ![] bcast_S_S128x32x21 (constant S_ .f32 0x3C23D70A#32)))
    (constant S_ .f32 0x00000000#32) reducesTo_S128x32x21_S128x21_d1 h_S_

/-- The features of all batches. -/
def features (tab : Vec F S50000x300 .f32) (qi : Vec F S128x32 .i32) (di : Vec F S128x512 .i32) (ql dl : Vec F S128 .i32) :
    FVec F S128x21 .f32 :=
  lps (Host.reduceAdd (bells (sims (rowsQ tab qi) (rowsD tab di)) dl) (constant S_ .f32 0x00000000#32)
    reducesTo_S128x32x512x21_S128x32x21_d2 h_S_) ql

/-- The scores from the features. -/
def scores (f : FVec F S128x21 .f32) (w : FVec F S1x21 .f32) (b : FVec F S1 .f32) : FVec F S128 .f32 :=
  shapeCast _ (addf (Host.dotGeneral dot_S128x21_S21x1_S128x1_1_0_0_1_n_n none f (transpose S21x1 [1, 0] w transposes_S1x21_S21x1_1_0))
    (broadcastInDim S128x1 ![0, 1] bcast_S1x1_S128x1_0_1 (broadcastInDim S1x1 ![1] bcast_S1_S1x1_1 b))) shapeCasts_S128x1_S128

variable (m : (ℓ : Loc nD τ sig) → Buf (Elt F) ℓ) (c : Dev nD)

/-- The second result is the features. -/
theorem res_features : res_out1 m c = features (m ((c.tc : Thread nD τ).loc main_arg4)) (m ((c.tc : Thread nD τ).loc main_arg0))
    (m ((c.tc : Thread nD τ).loc main_arg1)) (m ((c.tc : Thread nD τ).loc main_arg2)) (m ((c.tc : Thread nD τ).loc main_arg3)) := rfl

/-- The first result is the scores of the features. -/
theorem res_scores : res_out0 m c = scores (features (m ((c.tc : Thread nD τ).loc main_arg4)) (m ((c.tc : Thread nD τ).loc main_arg0))
    (m ((c.tc : Thread nD τ).loc main_arg1)) (m ((c.tc : Thread nD τ).loc main_arg2)) (m ((c.tc : Thread nD τ).loc main_arg3)))
    (m ((c.tc : Thread nD τ).loc main_arg5)) (m ((c.tc : Thread nD τ).loc main_arg6)) := rfl

end stages

/-! ### At an index -/

/-- A looked-up row of the query at a coordinate. -/
theorem rowsQ_apply (tab : Vec Ideal S50000x300 .f32) (ix : Vec Ideal S128x32 .i32) (b : Fin 128) (i : Fin 32) (e : Fin 300) :
    rowsQ tab ix (ix3 b i e) = tab (ix2 (rowNum (ix (ix2 b i))) e) := by
  unfold rowsQ
  refine (lookup_apply (by decide) gather_S50000x300_S128x32x1_S128x32x300_2_0_n_n_0_2_1300.wf tab _ b i e).trans ?_
  refine congrArg tab (congrArg (fun r => ix2 r e) (Fin.ext ?_))
  show min (BitVec.toInt _).toNat 49999 = min (BitVec.toInt _).toNat 49999
  pointwise

/-- A looked-up row of the document at a coordinate. -/
theorem rowsD_apply (tab : Vec Ideal S50000x300 .f32) (ix : Vec Ideal S128x512 .i32) (b : Fin 128) (i : Fin 512) (e : Fin 300) :
    rowsD tab ix (ix3 b i e) = tab (ix2 (rowNum (ix (ix2 b i))) e) := by
  unfold rowsD
  refine (lookup_apply (by decide) gather_S50000x300_S128x512x1_S128x512x300_2_0_n_n_0_2_1300.wf tab _ b i e).trans ?_
  refine congrArg tab (congrArg (fun r => ix2 r e) (Fin.ext ?_))
  show min (BitVec.toInt _).toNat 49999 = min (BitVec.toInt _).toNat 49999
  pointwise

/-- A query row scaled to unit length. -/
theorem unitQ_apply (x : FVec Ideal S128x32x300 .f32) (b : Fin 128) (i : Fin 32) (e : Fin 300) :
    unitQ x (ix3 b i e) = Knrm.unit (fun e => x (ix3 b i e)) e := by
  pointwise [unitQ, Knrm.unit, Knrm.sq]

/-- A document row scaled to unit length. -/
theorem unitD_apply (x : FVec Ideal S128x512x300 .f32) (b : Fin 128) (i : Fin 512) (e : Fin 300) :
    unitD x (ix3 b i e) = Knrm.unit (fun e => x (ix3 b i e)) e := by
  pointwise [unitD, Knrm.unit, Knrm.sq]

/-- The similarity of query row `i` and document row `j`. -/
theorem sims_apply (q : FVec Ideal S128x32x300 .f32) (d : FVec Ideal S128x512x300 .f32) (b : Fin 128) (i : Fin 32) (j : Fin 512) :
    sims q d (ix3 b i j) = sim (fun e => q (ix3 b i e)) (fun e => d (ix3 b j e)) := by
  pointwise [sims]
  simp only [unitQ_apply, unitD_apply]
  rfl

/-- The reference's table of centres is the kernel's. -/
theorem lit0_eq (k : Fin 21) : lit0 k = muWord k := by
  fin_cases k <;> rfl

/-- Kernel `k`'s masked Gaussian of a similarity. -/
theorem bells_apply (s : FVec Ideal S128x32x512 .f32) (dl : Vec Ideal S128 .i32) (b : Fin 128) (i : Fin 32) (j : Fin 512)
    (k : Fin 21) : bells s dl (ix4 b i j k) = bell k (s (ix3 b i j)) * mask (dl (ix1 b)) j := by
  have hk : lit0 (S21.rowMajor (ix1 k)) = muWord k := by
    rw [← lit0_eq]; exact congrArg lit0 (Fin.ext (Shape.rowMajor_val_one (ix1 k)))
  pointwise [bells, dists, centres, widths, bell, mu, sigma]
  rw [hk]

/-- Feature `k` from the pooled sums: their logarithms over the live query rows. -/
theorem lps_apply (p : FVec Ideal S128x32x21 .f32) (ql : Vec Ideal S128 .i32) (b : Fin 128) (k : Fin 21) :
    lps p ql (ix2 b k) = ∑ i : Fin 32, Ideal.log (max (Ideal.ofBits .f32 0x2EDBE6FF#32) (p (ix3 b i k))) * mask (ql (ix1 b)) i
      * Ideal.ofBits .f32 0x3C23D70A#32 := by
  pointwise [lps]
  rfl

/-- The sum of the Gaussians over the document. -/
theorem pooled_apply (x : FVec Ideal S128x32x512x21 .f32) (b : Fin 128) (i : Fin 32) (k : Fin 21) :
    Host.reduceAdd x (constant S_ .f32 0x00000000#32) reducesTo_S128x32x512x21_S128x32x21_d2 h_S_ (ix3 b i k)
      = ∑ j : Fin 512, x (ix4 b i j k) := by
  pointwise

/-- Feature `k` of batch entry `b`. -/
theorem features_apply (tab : Vec Ideal S50000x300 .f32) (qi : Vec Ideal S128x32 .i32) (di : Vec Ideal S128x512 .i32)
    (ql dl : Vec Ideal S128 .i32) (b : Fin 128) (k : Fin 21) :
    features tab qi di ql dl (ix2 b k)
      = feature (fun i e => tab (ix2 (rowNum (qi (ix2 b i))) e)) (fun j e => tab (ix2 (rowNum (di (ix2 b j))) e))
          (ql (ix1 b)) (dl (ix1 b)) k := by
  unfold features
  rw [lps_apply]
  simp only [pooled_apply, bells_apply, sims_apply, rowsQ_apply, rowsD_apply]
  rfl

/-- The score of batch entry `b`. -/
theorem scores_apply (f : FVec Ideal S128x21 .f32) (w : FVec Ideal S1x21 .f32) (b : FVec Ideal S1 .f32) (n : Fin 128) :
    scores f w b (ix1 n) = score (fun k => f (ix2 n k)) (fun k => w (ix2 0 k)) (b (ix1 0)) := by
  pointwise [scores, score]

end Cert.ReferenceIdeal.Value

end
-- ==== Proof.Equal.lean ====
/- The kernel's two result arrays and the reference's, from equal arguments, are the same arrays. -/
module

public import proofs.«01_k».proof.Proof.Kern
public import proofs.«01_k».proof.Proof.RefRead
public import Idealize.ShloMosaic.Lib.Pointwise

@[expose] public section

set_option maxRecDepth 16384

noncomputable section

namespace Cert.Knrm

open Idealize.ShloMosaic Idealize.SL.Sem Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- On a core the two programs are launched with the same seven arguments. -/
def SameArgs (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'} {c : Dev Cert.KernelIdeal.nD}

/-- The reference's features are the kernel's. -/
theorem feats_same (h : SameArgs m m' c) :
    Cert.ReferenceIdeal.Value.res_out1 m' c = Cert.KernelIdeal.Value.allFeats m c := by
  obtain ⟨h0, h1, h2, h3, h4, -, -⟩ := h
  rw [Cert.ReferenceIdeal.Value.res_features, h0, h1, h2, h3, h4]
  refine funext fun (j : Cert.KernelIdeal.S128x21.Idx) => ?_
  have hj : j = ix2 ⟨(j 0).val, (j 0).isLt⟩ ⟨(j 1).val, (j 1).isLt⟩ := by blk_ext []
  rw [hj]
  exact (Cert.ReferenceIdeal.Value.features_apply _ _ _ _ _ _ _).trans (Cert.KernelIdeal.Value.allFeats_apply m c _ _).symm

/-- The reference's scores are the kernel's. -/
theorem scores_same (h : SameArgs m m' c) :
    Cert.ReferenceIdeal.Value.res_out0 m' c = Cert.KernelIdeal.Value.allScores m c := by
  have hf := feats_same h
  rw [Cert.ReferenceIdeal.Value.res_features] at hf
  obtain ⟨-, -, -, -, -, h5, h6⟩ := h
  rw [Cert.ReferenceIdeal.Value.res_scores, hf, h5, h6]
  refine funext fun (j : Cert.KernelIdeal.S128.Idx) => ?_
  have hj : j = ix1 ⟨(j 0).val, (j 0).isLt⟩ := by blk_ext []
  rw [hj]
  refine (Cert.ReferenceIdeal.Value.scores_apply _ _ _ _).trans (Eq.trans ?_ (Cert.KernelIdeal.Value.allScores_apply m c _).symm)
  unfold Cert.KernelIdeal.Value.entryScore
  refine congrArg (fun f => score f _ _) (funext fun k => ?_)
  exact Cert.KernelIdeal.Value.allFeats_apply m c _ k

end Cert.Knrm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunK
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's executions end, with the arguments as they were and every semaphore at zero. -/
theorem frame_p : Cert.quiescent_Kernel := fun m ρ _ => Cert.Kernel.Gen.frame m ρ

/-- The same of the exact reading of the kernel. -/
theorem frame_pi : Cert.quiescent_KernelIdeal := fun m ρ _ => Cert.KernelIdeal.Gen.frame m ρ

/-- The reference runs to its end with the arguments as they were; it has no semaphore at all. -/
theorem frame_ri : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-- Each literal the exact reading names has in the table the number it is named by. -/
theorem preserves : Cert.preserves_Kernel_KernelIdeal :=
  ⟨IdealRules.named_const.statement Cert.KernelIdeal.κ "eps2" .f32 0x179ABE15#32 _ rfl,
   IdealRules.named_const.statement Cert.KernelIdeal.κ "mask" .f32 0xC1F00000#32 _ rfl⟩

/-- From equal arguments the exact reading of the kernel and the reference end with the same scores and the same features:
    both arrays are stated as what the kernel's four regions leave, joined. -/
theorem algebraic : Cert.algebraic_KernelIdeal_ReferenceIdeal := fun m ρ m' ρ' _ hargs => by
  refine ⟨fun c => Cert.KernelIdeal.Value.allScores m c, fun c => Cert.KernelIdeal.Value.allFeats m c, ?_, ?_⟩
  · refine (θ_run Cert.KernelIdeal.defs _ _).mono (fun r h c => ?_) (Cert.KernelIdeal.Value.run_results (F := Ideal) m ρ)
    obtain ⟨h0, h1, ha⟩ := h.1 c
    exact ⟨h0.trans (Cert.KernelIdeal.Value.result_scores m ρ c), h1.trans (Cert.KernelIdeal.Value.result_feats m ρ c), ha⟩
  · refine (θ_run Cert.ReferenceIdeal.defs _ _).mono (fun r h c => ?_) (Cert.ReferenceIdeal.Value.run (F := Ideal) m' ρ')
    obtain ⟨h0, h1, ha⟩ := h c
    exact ⟨h0.trans (Cert.Knrm.scores_same (hargs c)), h1.trans (Cert.Knrm.feats_same (hargs c)), ha⟩

/-- Every claim, with the programs' stated facts. -/
theorem claim : Cert.Claim := ⟨Cert.Kernel.Gen.facts, Cert.KernelIdeal.Gen.facts, Cert.ReferenceIdeal.Gen.facts,
  frame_p, frame_pi, frame_ri, preserves, algebraic⟩

end Cert.Proof

end
